-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_on_of_prompt [hKernelIdeal : Cert.KernelIdeal.Facts] [hReferenceIdeal : Cert.ReferenceIdeal.Facts] [hOn_of_prompt : Cert.On_of_prompt.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_of_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v60_0) i = v0 c i)
          ∧ (∀ i : (⟨6, ![8, 4, 2, 4, 128, 256]⟩ : Shape).Idx, (Cert.On_of_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v60_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_of_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v498) i = v0 c i)
          ∧ (∀ i : (⟨6, ![8, 4, 2, 4, 128, 256]⟩ : Shape).Idx, (Cert.On_of_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v500) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hOn_of_prompt : Cert.On_of_prompt.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_of_prompt (hKernelIdeal := hKernelIdeal) (hReferenceIdeal := hReferenceIdeal) (hOn_of_prompt := hOn_of_prompt)
    ∧ preserves_Kernel2_Kernel2Ideal
    ∧ algebraic_Kernel2Ideal_Reference2Ideal (hKernel2Ideal := hKernel2Ideal) (hReference2Ideal := hReference2Ideal)
-- ==== On_of_prompt.lean ====
abbrev S16x256x5664 : Shape := ⟨3, ![16, 256, 5664]⟩
abbrev S4x1024x5664 : Shape := ⟨3, ![4, 1024, 5664]⟩
abbrev S16x512 : Shape := ⟨2, ![16, 512]⟩
abbrev S512 : Shape := ⟨1, ![512]⟩
abbrev S4x2x4x128x256 : Shape := ⟨5, ![4, 2, 4, 128, 256]⟩
abbrev S_ : Shape := ⟨0, ![]⟩
abbrev S8192x1024 : Shape := ⟨2, ![8192, 1024]⟩
abbrev S8x4x2x4x128x256 : Shape := ⟨6, ![8, 4, 2, 4, 128, 256]⟩

class Facts : Prop where
  bcast_S_S8192x1024 : S_.BroadcastsInDim S8192x1024 (![] : Fin 0 → Fin S8192x1024.rank)
  bcast_S_S8x4x2x4x128x256 : S_.BroadcastsInDim S8x4x2x4x128x256 (![] : Fin 0 → Fin S8x4x2x4x128x256.rank)

variable [Facts]

def fn {F : FTy → Type} [FloatOps F] (main_arg0 : FVec F S16x256x5664 .f32) (main_arg1 : FVec F S4x1024x5664 .f32) (main_arg2 : FVec F S16x512 .f32) (main_arg3 : FVec F S512 .f32) (main_arg4 : FVec F S16x512 .f32) (main_arg5 : FVec F S512 .f32) (main_arg6 : FVec F S4x2x4x128x256 .f32) : IVec S8192x1024 1 × IVec S8x4x2x4x128x256 1 :=
  let main_c : IVec S_ 1 := constantI S_ 1 1#1
  let main_v0 : IVec S8192x1024 1 := broadcastInDim S8192x1024 ![] bcast_S_S8192x1024 main_c
  let main_v1 : IVec S8x4x2x4x128x256 32 := iotaInDim S8x4x2x4x128x256 32 0
  let main_c_0 : IVec S_ 32 := constantI S_ 32 4#32
  let main_v2 : IVec S8x4x2x4x128x256 32 := broadcastInDim S8x4x2x4x128x256 ![] bcast_S_S8x4x2x4x128x256 main_c_0
  let main_v3 : IVec S8x4x2x4x128x256 1 := cmpi .slt main_v1 main_v2
  (main_v0, main_v3)
-- ==== Kernel.lean ====
abbrev S16x256x5664 : Shape := ⟨3, ![16, 256, 5664]⟩
abbrev S4x1024x5664 : Shape := ⟨3, ![4, 1024, 5664]⟩
abbrev S16x512 : Shape := ⟨2, ![16, 512]⟩
abbrev S512 : Shape := ⟨1, ![512]⟩
abbrev S4x2x4x128x256 : Shape := ⟨5, ![4, 2, 4, 128, 256]⟩
abbrev S4096x5664 : Shape := ⟨2, ![4096, 5664]⟩
abbrev S8192x5664 : Shape := ⟨2, ![8192, 5664]⟩
abbrev S1024 : Shape := ⟨1, ![1024]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1024x128 : Shape := ⟨2, ![1024, 128]⟩
abbrev S1x1024x128 : Shape := ⟨3, ![1, 1024, 128]⟩
abbrev S2x1024x128 : Shape := ⟨3, ![2, 1024, 128]⟩
abbrev S8192x3072 : Shape := ⟨2, ![8192, 3072]⟩
abbrev S8192x2048 : Shape := ⟨2, ![8192, 2048]⟩
abbrev S8192x512 : Shape := ⟨2, ![8192, 512]⟩
abbrev S8192x32 : Shape := ⟨2, ![8192, 32]⟩
abbrev S8192x96 : Shape := ⟨2, ![8192, 96]⟩
abbrev S8192x5760 : Shape := ⟨2, ![8192, 5760]⟩
abbrev S128x512 : Shape := ⟨2, ![128, 512]⟩
abbrev S1 : Shape := ⟨1, ![1]⟩
abbrev S1x512 : Shape := ⟨2, ![1, 512]⟩
abbrev S8192x1024 : Shape := ⟨2, ![8192, 1024]⟩
abbrev S8x4x2x4x128x256 : Shape := ⟨6, ![8, 4, 2, 4, 128, 256]⟩
abbrev S1024x256 : Shape := ⟨2, ![1024, 256]⟩
abbrev S128x128 : Shape := ⟨2, ![128, 128]⟩
abbrev S1x128 : Shape := ⟨2, ![1, 128]⟩
abbrev S1x2x1x128x256 : Shape := ⟨5, ![1, 2, 1, 128, 256]⟩
abbrev S1x4x2x1x128x256 : Shape := ⟨6, ![1, 4, 2, 1, 128, 256]⟩
abbrev S64x64 : Shape := ⟨2, ![64, 64]⟩
abbrev S64x128 : Shape := ⟨2, ![64, 128]⟩
abbrev S64x256 : Shape := ⟨2, ![64, 256]⟩
abbrev S256x128 : Shape := ⟨2, ![256, 128]⟩
abbrev S1x1x1x128x256 : Shape := ⟨5, ![1, 1, 1, 128, 256]⟩
abbrev S128x256 : Shape := ⟨2, ![128, 256]⟩
abbrev S1x1x1x1x128x256 : Shape := ⟨6, ![1, 1, 1, 1, 128, 256]⟩

abbrev nBuf : Space → Nat
  | .hbm => 116
  | .vmem => 31
  | .smem => 0
  | _ => 0

abbrev bufTy : (tb : Table) → Fin (tcTables nBuf tb) → BufTy
  | .hbm, ⟨0, _⟩ => ⟨S16x256x5664, .f32⟩
  | .hbm, ⟨1, _⟩ => ⟨S4x1024x5664, .f32⟩
  | .hbm, ⟨2, _⟩ => ⟨S16x512, .f32⟩
  | .hbm, ⟨3, _⟩ => ⟨S512, .f32⟩
  | .hbm, ⟨4, _⟩ => ⟨S16x512, .f32⟩
  | .hbm, ⟨5, _⟩ => ⟨S512, .f32⟩
  | .hbm, ⟨6, _⟩ => ⟨S4x2x4x128x256, .f32⟩
  | .hbm, ⟨7, _⟩ => ⟨S4096x5664, .f32⟩
  | .hbm, ⟨8, _⟩ => ⟨S4096x5664, .f32⟩
  | .hbm, ⟨9, _⟩ => ⟨S8192x5664, .f32⟩
  | .hbm, ⟨10, _⟩ => ⟨S1024, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024, .f32⟩
  | .hbm, ⟨38, _⟩ => ⟨S1024x1, .f32⟩
  | .hbm, ⟨39, _⟩ => ⟨S1x32, .f32⟩
  | .hbm, ⟨40, _⟩ => ⟨S1024x32, .f32⟩
  | .hbm, ⟨41, _⟩ => ⟨S1024x32, .f32⟩
  | .hbm, ⟨42, _⟩ => ⟨S1024x32, .f32⟩
  | .hbm, ⟨43, _⟩ => ⟨S1024x32, .f32⟩
  | .hbm, ⟨44, _⟩ => ⟨S1024x32, .f32⟩
  | .hbm, ⟨45, _⟩ => ⟨S1024x64, .f32⟩
  | .hbm, ⟨46, _⟩ => ⟨S1024x32, .f32⟩
  | .hbm, ⟨47, _⟩ => ⟨S1024x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S_, .i1⟩
  | .hbm, ⟨64, _⟩ => ⟨S1024, .i1⟩
  | .hbm, ⟨65, _⟩ => ⟨S1024, .i1⟩
  | .hbm, ⟨66, _⟩ => ⟨S1024, .i1⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024, .f32⟩
  | .hbm, ⟨71, _⟩ => ⟨S1024x1, .f32⟩
  | .hbm, ⟨72, _⟩ => ⟨S1x32, .f32⟩
  | .hbm, ⟨73, _⟩ => ⟨S1024x32, .f32⟩
  | .hbm, ⟨74, _⟩ => ⟨S1024x32, .f32⟩
  | .hbm, ⟨75, _⟩ => ⟨S1024x32, .f32⟩
  | .hbm, ⟨76, _⟩ => ⟨S1024x32, .f32⟩
  | .hbm, ⟨77, _⟩ => ⟨S1024x32, .f32⟩
  | .hbm, ⟨78, _⟩ => ⟨S1024x64, .f32⟩
  | .hbm, ⟨79, _⟩ => ⟨S1024x32, .f32⟩
  | .hbm, ⟨80, _⟩ => ⟨S1024x64, .f32⟩
  | .hbm, ⟨81, _⟩ => ⟨S1024x128, .f32⟩
  | .hbm, ⟨82, _⟩ => ⟨S1024x128, .f32⟩
  | .hbm, ⟨83, _⟩ => ⟨S_, .f32⟩
  | .hbm, ⟨84, _⟩ => ⟨S1024x128, .f32⟩
  | .hbm, ⟨85, _⟩ => ⟨S1x1024x128, .f32⟩
  | .hbm, ⟨86, _⟩ => ⟨S1x1024x128, .f32⟩
  | .hbm, ⟨87, _⟩ => ⟨S2x1024x128, .f32⟩
  | .hbm, ⟨88, _⟩ => ⟨S_, .f32⟩
  | .hbm, ⟨89, _⟩ => ⟨S1024x128, .f32⟩
  | .hbm, ⟨90, _⟩ => ⟨S1x1024x128, .f32⟩
  | .hbm, ⟨91, _⟩ => ⟨S1x1024x128, .f32⟩
  | .hbm, ⟨92, _⟩ => ⟨S2x1024x128, .f32⟩
  | .hbm, ⟨93, _⟩ => ⟨S8192x3072, .f32⟩
  | .hbm, ⟨94, _⟩ => ⟨S8192x2048, .f32⟩
  | .hbm, ⟨95, _⟩ => ⟨S8192x512, .f32⟩
  | .hbm, ⟨96, _⟩ => ⟨S8192x32, .f32⟩
  | .hbm, ⟨97, _⟩ => ⟨S_, .f32⟩
  | .hbm, ⟨98, _⟩ => ⟨S8192x96, .f32⟩
  | .hbm, ⟨99, _⟩ => ⟨S8192x5760, .f32⟩
  | .hbm, ⟨100, _⟩ => ⟨S_, .f32⟩
  | .hbm, ⟨101, _⟩ => ⟨S128x512, .f32⟩
  | .hbm, ⟨102, _⟩ => ⟨S_, .i32⟩
  | .hbm, ⟨103, _⟩ => ⟨S1, .i32⟩
  | .hbm, ⟨104, _⟩ => ⟨S128x512, .f32⟩
  | .hbm, ⟨105, _⟩ => ⟨S128x512, .bf16⟩
  | .hbm, ⟨106, _⟩ => ⟨S_, .f32⟩
  | .hbm, ⟨107, _⟩ => ⟨S128x512, .f32⟩
  | .hbm, ⟨108, _⟩ => ⟨S_, .i32⟩
  | .hbm, ⟨109, _⟩ => ⟨S1, .i32⟩
  | .hbm, ⟨110, _⟩ => ⟨S128x512, .f32⟩
  | .hbm, ⟨111, _⟩ => ⟨S128x512, .bf16⟩
  | .hbm, ⟨112, _⟩ => ⟨S1x512, .f32⟩
  | .hbm, ⟨113, _⟩ => ⟨S1x512, .f32⟩
  | .hbm, ⟨114, _⟩ => ⟨S8192x1024, .f32⟩
  | .hbm, ⟨115, _⟩ => ⟨S8x4x2x4x128x256, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x2x1x128x256, .f32⟩
  | .local _ .vmem, ⟨21, _⟩ => ⟨S1x2x1x128x256, .f32⟩
  | .local _ .vmem, ⟨22, _⟩ => ⟨S1024x256, .f32⟩
  | .local _ .vmem, ⟨23, _⟩ => ⟨S1024x256, .f32⟩
  | .local _ .vmem, ⟨24, _⟩ => ⟨S1x4x2x1x128x256, .f32⟩
  | .local _ .vmem, ⟨25, _⟩ => ⟨S1x4x2x1x128x256, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x256, .f32⟩
  | _, _ => ⟨S16x256x5664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_1 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_2 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_3 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_4 : Ref sig .tc := ⟨.hbm, 97, rfl⟩
abbrev main_v48 : Ref sig .tc := ⟨.hbm, 98, rfl⟩
abbrev main_v49 : Ref sig .tc := ⟨.hbm, 99, rfl⟩
abbrev main_cst_5 : Ref sig .tc := ⟨.hbm, 100, rfl⟩
abbrev main_v50 : Ref sig .tc := ⟨.hbm, 101, rfl⟩
abbrev main_c_6 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_7 : Ref sig .tc := ⟨.hbm, 106, rfl⟩
abbrev main_v54 : Ref sig .tc := ⟨.hbm, 107, rfl⟩
abbrev main_c_8 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60_0 : Ref sig .tc := ⟨.hbm, 114, rfl⟩
abbrev main_v60_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, arg1.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x256x5664 : Shape := ⟨3, ![16, 256, 5664]⟩
abbrev S4x1024x5664 : Shape := ⟨3, ![4, 1024, 5664]⟩
abbrev S16x512 : Shape := ⟨2, ![16, 512]⟩
abbrev S512 : Shape := ⟨1, ![512]⟩
abbrev S4x2x4x128x256 : Shape := ⟨5, ![4, 2, 4, 128, 256]⟩
abbrev S_ : Shape := ⟨0, ![]⟩
abbrev S16x4x128x256 : Shape := ⟨4, ![16, 4, 128, 256]⟩
abbrev S16x256x512 : Shape := ⟨3, ![16, 256, 512]⟩
abbrev S16x256x1024 : Shape := ⟨3, ![16, 256, 1024]⟩
abbrev S16x256x16 : Shape := ⟨3, ![16, 256, 16]⟩
abbrev S16x256x4x128 : Shape := ⟨4, ![16, 256, 4, 128]⟩
abbrev S16x4x256x128 : Shape := ⟨4, ![16, 4, 256, 128]⟩
abbrev S16x256x4x256 : Shape := ⟨4, ![16, 256, 4, 256]⟩
abbrev S16x4x256x256 : Shape := ⟨4, ![16, 4, 256, 256]⟩
abbrev S1x1x512 : Shape := ⟨3, ![1, 1, 512]⟩
abbrev S32x4x256x128 : Shape := ⟨4, ![32, 4, 256, 128]⟩
abbrev S32x4x256x256 : Shape := ⟨4, ![32, 4, 256, 256]⟩
abbrev S32x4x128x256 : Shape := ⟨4, ![32, 4, 128, 256]⟩
abbrev S32x4x4x64x128 : Shape := ⟨5, ![32, 4, 4, 64, 128]⟩
abbrev S32x4x4x64x256 : Shape := ⟨5, ![32, 4, 4, 64, 256]⟩
abbrev S32x4x4x1x128 : Shape := ⟨5, ![32, 4, 4, 1, 128]⟩
abbrev S32x4x4x64x64 : Shape := ⟨5, ![32, 4, 4, 64, 64]⟩
abbrev S64x64 : Shape := ⟨2, ![64, 64]⟩
abbrev S4x32x4x128x256 : Shape := ⟨5, ![4, 32, 4, 128, 256]⟩
abbrev S32x4x4x128 : Shape := ⟨4, ![32, 4, 4, 128]⟩
abbrev S4x32x4x128 : Shape := ⟨4, ![4, 32, 4, 128]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S1x32x4x128x256 : Shape := ⟨5, ![1, 32, 4, 128, 256]⟩
abbrev S16x4x256 : Shape := ⟨3, ![16, 4, 256]⟩
abbrev S16x4x256x1 : Shape := ⟨4, ![16, 4, 256, 1]⟩
abbrev S4096x1024 : Shape := ⟨2, ![4096, 1024]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S4x1x4x128x256 : Shape := ⟨5, ![4, 1, 4, 128, 256]⟩
abbrev S4x4x128x256 : Shape := ⟨4, ![4, 4, 128, 256]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S4x1024x4x128 : Shape := ⟨4, ![4, 1024, 4, 128]⟩
abbrev S4x4x1024x128 : Shape := ⟨4, ![4, 4, 1024, 128]⟩
abbrev S4x1024x4x256 : Shape := ⟨4, ![4, 1024, 4, 256]⟩
abbrev S4x4x1024x256 : Shape := ⟨4, ![4, 4, 1024, 256]⟩
abbrev S4x4x1024x64 : Shape := ⟨4, ![4, 4, 1024, 64]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S4x4x1024x32 : Shape := ⟨4, ![4, 4, 1024, 32]⟩
abbrev S1x1x1024x32 : Shape := ⟨4, ![1, 1, 1024, 32]⟩
abbrev S8x4x1024x128 : Shape := ⟨4, ![8, 4, 1024, 128]⟩
abbrev S8x4x1024x256 : Shape := ⟨4, ![8, 4, 1024, 256]⟩
abbrev S8x4x128x256 : Shape := ⟨4, ![8, 4, 128, 256]⟩
abbrev S8x4x16x64x128 : Shape := ⟨5, ![8, 4, 16, 64, 128]⟩
abbrev S8x4x16x64x256 : Shape := ⟨5, ![8, 4, 16, 64, 256]⟩
abbrev S8x4x16x1x128 : Shape := ⟨5, ![8, 4, 16, 1, 128]⟩
abbrev S8x4x16x64x64 : Shape := ⟨5, ![8, 4, 16, 64, 64]⟩
abbrev S16x8x4x128x256 : Shape := ⟨5, ![16, 8, 4, 128, 256]⟩
abbrev S8x4x16x128 : Shape := ⟨4, ![8, 4, 16, 128]⟩
abbrev S16x8x4x128 : Shape := ⟨4, ![16, 8, 4, 128]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S1x8x4x128x256 : Shape := ⟨5, ![1, 8, 4, 128, 256]⟩
abbrev S4x4x1024 : Shape := ⟨3, ![4, 4, 1024]⟩
abbrev S4x4x1024x1 : Shape := ⟨4, ![4, 4, 1024, 1]⟩
abbrev S16x1x4x128x256 : Shape := ⟨5, ![16, 1, 4, 128, 256]⟩
abbrev S16x2x4x128x256 : Shape := ⟨5, ![16, 2, 4, 128, 256]⟩
abbrev S4x4x2x4x128x256 : Shape := ⟨6, ![4, 4, 2, 4, 128, 256]⟩
abbrev S8192x1024 : Shape := ⟨2, ![8192, 1024]⟩
abbrev S8x4x2x4x128x256 : Shape := ⟨6, ![8, 4, 2, 4, 128, 256]⟩

abbrev nBuf : Space → Nat
  | .hbm => 620
  | .vmem => 0
  | .smem => 0
  | _ => 0

abbrev hbmTy0_0 (i : Nat) : BufTy := match i % 128 with
  | 0 => ⟨S16x256x5664, .f32⟩
  | 1 => ⟨S4x1024x5664, .f32⟩
  | 2 => ⟨S16x512, .f32⟩
  | 3 => ⟨S512, .f32⟩
  | 4 => ⟨S16x512, .f32⟩
  | 5 => ⟨S512, .f32⟩
  | 6 => ⟨S4x2x4x128x256, .f32⟩
  | 7 => ⟨S_, .f32⟩
  | 8 => ⟨S16x4x128x256, .f32⟩
  | 9 => ⟨S16x256x512, .f32⟩
  | 10 => ⟨S16x256x512, .f32⟩
  | 11 => ⟨S16x256x1024, .f32⟩
  | 12 => ⟨S16x256x16, .f32⟩
  | 13 => ⟨S16x256x16, .f32⟩
  | 14 => ⟨S16x256x4x128, .f32⟩
  | 15 => ⟨S16x4x256x128, .f32⟩
  | 16 => ⟨S_, .f32⟩
  | 17 => ⟨S16x4x256x128, .f32⟩
  | 18 => ⟨S16x4x256x128, .f32⟩
  | 19 => ⟨S16x256x4x128, .f32⟩
  | 20 => ⟨S16x4x256x128, .f32⟩
  | 21 => ⟨S16x256x4x256, .f32⟩
  | 22 => ⟨S16x4x256x256, .f32⟩
  | 23 => ⟨S16x256x512, .f32⟩
  | 24 => ⟨S1x1x512, .f32⟩
  | 25 => ⟨S16x256x512, .f32⟩
  | 26 => ⟨S16x256x512, .f32⟩
  | 27 => ⟨S16x256x512, .f32⟩
  | 28 => ⟨S_, .f32⟩
  | 29 => ⟨S16x256x512, .f32⟩
  | 30 => ⟨S16x256x512, .f32⟩
  | 31 => ⟨S16x256x512, .f32⟩
  | 32 => ⟨S16x256x512, .f32⟩
  | 33 => ⟨S16x256x512, .i1⟩
  | 34 => ⟨S16x256x512, .f32⟩
  | 35 => ⟨S16x256x512, .f32⟩
  | 36 => ⟨S16x256x512, .f32⟩
  | 37 => ⟨S16x256x512, .f32⟩
  | 38 => ⟨S16x256x512, .f32⟩
  | 39 => ⟨S16x256x512, .f32⟩
  | 40 => ⟨S16x256x512, .f32⟩
  | 41 => ⟨S16x256x512, .f32⟩
  | 42 => ⟨S16x256x512, .f32⟩
  | 43 => ⟨S_, .f32⟩
  | 44 => ⟨S16x256x512, .f32⟩
  | 45 => ⟨S16x256x512, .f32⟩
  | 46 => ⟨S16x256x4x128, .f32⟩
  | 47 => ⟨S16x4x256x128, .f32⟩
  | 48 => ⟨S16x256x512, .f32⟩
  | 49 => ⟨S1x1x512, .f32⟩
  | 50 => ⟨S16x256x512, .f32⟩
  | 51 => ⟨S16x256x512, .f32⟩
  | 52 => ⟨S16x256x512, .f32⟩
  | 53 => ⟨S_, .f32⟩
  | 54 => ⟨S16x256x512, .f32⟩
  | 55 => ⟨S16x256x512, .f32⟩
  | 56 => ⟨S16x256x512, .f32⟩
  | 57 => ⟨S16x256x512, .f32⟩
  | 58 => ⟨S16x256x512, .i1⟩
  | 59 => ⟨S16x256x512, .f32⟩
  | 60 => ⟨S16x256x512, .f32⟩
  | 61 => ⟨S16x256x512, .f32⟩
  | 62 => ⟨S16x256x512, .f32⟩
  | 63 => ⟨S16x256x512, .f32⟩
  | 64 => ⟨S16x256x512, .f32⟩
  | 65 => ⟨S16x256x512, .f32⟩
  | 66 => ⟨S16x256x512, .f32⟩
  | 67 => ⟨S16x256x512, .f32⟩
  | 68 => ⟨S_, .f32⟩
  | 69 => ⟨S16x256x512, .f32⟩
  | 70 => ⟨S16x256x512, .f32⟩
  | 71 => ⟨S16x256x4x128, .f32⟩
  | 72 => ⟨S16x4x256x128, .f32⟩
  | 73 => ⟨S16x4x256x128, .f32⟩
  | 74 => ⟨S32x4x256x128, .f32⟩
  | 75 => ⟨S16x4x256x128, .f32⟩
  | 76 => ⟨S32x4x256x128, .f32⟩
  | 77 => ⟨S16x4x256x256, .f32⟩
  | 78 => ⟨S32x4x256x256, .f32⟩
  | 79 => ⟨S16x4x256x128, .f32⟩
  | 80 => ⟨S32x4x256x128, .f32⟩
  | 81 => ⟨S32x4x128x256, .f32⟩
  | 82 => ⟨S32x4x4x64x128, .f32⟩
  | 83 => ⟨S32x4x4x64x128, .f32⟩
  | 84 => ⟨S32x4x4x64x256, .f32⟩
  | 85 => ⟨S32x4x4x64x128, .f32⟩
  | 86 => ⟨S_, .f32⟩
  | 87 => ⟨S_, .f32⟩
  | 88 => ⟨S32x4x4x64x128, .f32⟩
  | 89 => ⟨S32x4x4x1x128, .f32⟩
  | 90 => ⟨S32x4x4x64x128, .f32⟩
  | 91 => ⟨S32x4x4x64x128, .f32⟩
  | 92 => ⟨S32x4x4x64x128, .f32⟩
  | 93 => ⟨S32x4x4x64x128, .f32⟩
  | 94 => ⟨S32x4x4x64x128, .f32⟩
  | 95 => ⟨S32x4x4x64x64, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S_, .f32⟩
  | 108 => ⟨S_, .f32⟩
  | 109 => ⟨S32x4x4x64x64, .i1⟩
  | 110 => ⟨S32x4x4x64x64, .f32⟩
  | 111 => ⟨S32x4x4x64x64, .f32⟩
  | 112 => ⟨S32x4x4x64x256, .f32⟩
  | 113 => ⟨S32x4x4x64x128, .f32⟩
  | 114 => ⟨S32x4x4x64x128, .f32⟩
  | 115 => ⟨S32x4x4x64x128, .f32⟩
  | 116 => ⟨S32x4x4x64x128, .f32⟩
  | 117 => ⟨S4x32x4x128x256, .f32⟩
  | 118 => ⟨S32x4x4x128, .f32⟩
  | 119 => ⟨S32x4x4x128, .f32⟩
  | 120 => ⟨S4x32x4x128, .f32⟩
  | 121 => ⟨S1x32x4x128, .f32⟩
  | 122 => ⟨S32x4x128, .f32⟩
  | 123 => ⟨S32x4x128x1, .f32⟩
  | 124 => ⟨S32x4x128x256, .f32⟩
  | 125 => ⟨S32x4x128x256, .f32⟩
  | 126 => ⟨S1x32x4x128x256, .f32⟩
  | 127 => ⟨S32x4x128x256, .f32⟩
  | _ => ⟨S16x256x5664, .f32⟩

abbrev hbmTy0_1 (i : Nat) : BufTy := match i % 128 with
  | 0 => ⟨S32x4x128x256, .f32⟩
  | 1 => ⟨S1x32x4x128, .f32⟩
  | 2 => ⟨S32x4x128, .f32⟩
  | 3 => ⟨S32x4x128x1, .f32⟩
  | 4 => ⟨S32x4x128x256, .f32⟩
  | 5 => ⟨S32x4x128x256, .f32⟩
  | 6 => ⟨S1x32x4x128x256, .f32⟩
  | 7 => ⟨S32x4x128x256, .f32⟩
  | 8 => ⟨S32x4x128x256, .f32⟩
  | 9 => ⟨S1x32x4x128, .f32⟩
  | 10 => ⟨S32x4x128, .f32⟩
  | 11 => ⟨S32x4x128x1, .f32⟩
  | 12 => ⟨S32x4x128x256, .f32⟩
  | 13 => ⟨S32x4x128x256, .f32⟩
  | 14 => ⟨S1x32x4x128x256, .f32⟩
  | 15 => ⟨S32x4x128x256, .f32⟩
  | 16 => ⟨S32x4x128x256, .f32⟩
  | 17 => ⟨S1x32x4x128, .f32⟩
  | 18 => ⟨S32x4x128, .f32⟩
  | 19 => ⟨S32x4x128x1, .f32⟩
  | 20 => ⟨S32x4x128x256, .f32⟩
  | 21 => ⟨S32x4x128x256, .f32⟩
  | 22 => ⟨S1x32x4x128x256, .f32⟩
  | 23 => ⟨S32x4x128x256, .f32⟩
  | 24 => ⟨S32x4x128x256, .f32⟩
  | 25 => ⟨S1x32x4x128x256, .f32⟩
  | 26 => ⟨S1x32x4x128x256, .f32⟩
  | 27 => ⟨S1x32x4x128x256, .f32⟩
  | 28 => ⟨S1x32x4x128x256, .f32⟩
  | 29 => ⟨S4x32x4x128x256, .f32⟩
  | 30 => ⟨S32x4x4x64x256, .f32⟩
  | 31 => ⟨S32x4x4x64x256, .f32⟩
  | 32 => ⟨S32x4x256x256, .f32⟩
  | 33 => ⟨S16x4x256x256, .f32⟩
  | 34 => ⟨S16x4x256x256, .f32⟩
  | 35 => ⟨S16x4x256x256, .f32⟩
  | 36 => ⟨S16x4x256x256, .f32⟩
  | 37 => ⟨S16x4x256x256, .f32⟩
  | 38 => ⟨S_, .f32⟩
  | 39 => ⟨S16x4x256, .f32⟩
  | 40 => ⟨S16x4x256x1, .f32⟩
  | 41 => ⟨S_, .f32⟩
  | 42 => ⟨S16x4x256x1, .f32⟩
  | 43 => ⟨S16x4x256x1, .f32⟩
  | 44 => ⟨S_, .f32⟩
  | 45 => ⟨S16x4x256x1, .f32⟩
  | 46 => ⟨S16x4x256x1, .f32⟩
  | 47 => ⟨S16x4x256x1, .f32⟩
  | 48 => ⟨S16x4x256x256, .f32⟩
  | 49 => ⟨S16x4x256x256, .f32⟩
  | 50 => ⟨S16x256x4x256, .f32⟩
  | 51 => ⟨S4096x1024, .f32⟩
  | 52 => ⟨S16x4x128x256, .f32⟩
  | 53 => ⟨S16x4x128x256, .f32⟩
  | 54 => ⟨S16, .i32⟩
  | 55 => ⟨S16x64, .i32⟩
  | 56 => ⟨S1024, .i32⟩
  | 57 => ⟨S64, .i32⟩
  | 58 => ⟨S1x64, .i32⟩
  | 59 => ⟨S16x64, .i32⟩
  | 60 => ⟨S1024, .i32⟩
  | 61 => ⟨S4x1x4x128x256, .f32⟩
  | 62 => ⟨S4x4x128x256, .f32⟩
  | 63 => ⟨S4x1x4x128x256, .f32⟩
  | 64 => ⟨S4x4x128x256, .f32⟩
  | 65 => ⟨S4x1024x512, .f32⟩
  | 66 => ⟨S4x1024x512, .f32⟩
  | 67 => ⟨S4x1024x1024, .f32⟩
  | 68 => ⟨S4x1024x16, .f32⟩
  | 69 => ⟨S4x1024x16, .f32⟩
  | 70 => ⟨S4x1024x4x128, .f32⟩
  | 71 => ⟨S4x4x1024x128, .f32⟩
  | 72 => ⟨S_, .f32⟩
  | 73 => ⟨S4x4x1024x128, .f32⟩
  | 74 => ⟨S4x4x1024x128, .f32⟩
  | 75 => ⟨S4x1024x4x128, .f32⟩
  | 76 => ⟨S4x4x1024x128, .f32⟩
  | 77 => ⟨S4x1024x4x256, .f32⟩
  | 78 => ⟨S4x4x1024x256, .f32⟩
  | 79 => ⟨S4x4x1024x64, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S1024, .f32⟩
  | 89 => ⟨S1024x1, .f32⟩
  | 90 => ⟨S1x32, .f32⟩
  | 91 => ⟨S1024x32, .f32⟩
  | 92 => ⟨S1024x32, .f32⟩
  | 93 => ⟨S1024x32, .f32⟩
  | 94 => ⟨S1024x32, .f32⟩
  | 95 => ⟨S1024x32, .f32⟩
  | 96 => ⟨S4x4x1024x32, .f32⟩
  | 97 => ⟨S4x4x1024x32, .f32⟩
  | 98 => ⟨S1x1x1024x32, .f32⟩
  | 99 => ⟨S4x4x1024x32, .f32⟩
  | 100 => ⟨S4x4x1024x32, .f32⟩
  | 101 => ⟨S1x1x1024x32, .f32⟩
  | 102 => ⟨S4x4x1024x32, .f32⟩
  | 103 => ⟨S4x4x1024x32, .f32⟩
  | 104 => ⟨S4x4x1024x32, .f32⟩
  | 105 => ⟨S1x1x1024x32, .f32⟩
  | 106 => ⟨S4x4x1024x32, .f32⟩
  | 107 => ⟨S4x4x1024x32, .f32⟩
  | 108 => ⟨S1x1x1024x32, .f32⟩
  | 109 => ⟨S4x4x1024x32, .f32⟩
  | 110 => ⟨S4x4x1024x32, .f32⟩
  | 111 => ⟨S4x4x1024x32, .f32⟩
  | 112 => ⟨S4x4x1024x64, .f32⟩
  | 113 => ⟨S4x4x1024x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S1024, .f32⟩
  | 123 => ⟨S1024x1, .f32⟩
  | 124 => ⟨S1x32, .f32⟩
  | 125 => ⟨S1024x32, .f32⟩
  | 126 => ⟨S1024x32, .f32⟩
  | 127 => ⟨S1024x32, .f32⟩
  | _ => ⟨S16x256x5664, .f32⟩

abbrev hbmTy0_2 (i : Nat) : BufTy := match i % 128 with
  | 0 => ⟨S1024x32, .f32⟩
  | 1 => ⟨S1024x32, .f32⟩
  | 2 => ⟨S4x4x1024x32, .f32⟩
  | 3 => ⟨S4x4x1024x32, .f32⟩
  | 4 => ⟨S1x1x1024x32, .f32⟩
  | 5 => ⟨S4x4x1024x32, .f32⟩
  | 6 => ⟨S4x4x1024x32, .f32⟩
  | 7 => ⟨S1x1x1024x32, .f32⟩
  | 8 => ⟨S4x4x1024x32, .f32⟩
  | 9 => ⟨S4x4x1024x32, .f32⟩
  | 10 => ⟨S4x4x1024x32, .f32⟩
  | 11 => ⟨S1x1x1024x32, .f32⟩
  | 12 => ⟨S4x4x1024x32, .f32⟩
  | 13 => ⟨S4x4x1024x32, .f32⟩
  | 14 => ⟨S1x1x1024x32, .f32⟩
  | 15 => ⟨S4x4x1024x32, .f32⟩
  | 16 => ⟨S4x4x1024x32, .f32⟩
  | 17 => ⟨S4x4x1024x32, .f32⟩
  | 18 => ⟨S4x4x1024x64, .f32⟩
  | 19 => ⟨S4x4x1024x128, .f32⟩
  | 20 => ⟨S4x4x1024x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S1024, .f32⟩
  | 30 => ⟨S1024x1, .f32⟩
  | 31 => ⟨S1x32, .f32⟩
  | 32 => ⟨S1024x32, .f32⟩
  | 33 => ⟨S1024x32, .f32⟩
  | 34 => ⟨S1024x32, .f32⟩
  | 35 => ⟨S1024x32, .f32⟩
  | 36 => ⟨S1024x32, .f32⟩
  | 37 => ⟨S4x4x1024x32, .f32⟩
  | 38 => ⟨S4x4x1024x32, .f32⟩
  | 39 => ⟨S1x1x1024x32, .f32⟩
  | 40 => ⟨S4x4x1024x32, .f32⟩
  | 41 => ⟨S4x4x1024x32, .f32⟩
  | 42 => ⟨S1x1x1024x32, .f32⟩
  | 43 => ⟨S4x4x1024x32, .f32⟩
  | 44 => ⟨S4x4x1024x32, .f32⟩
  | 45 => ⟨S4x4x1024x32, .f32⟩
  | 46 => ⟨S1x1x1024x32, .f32⟩
  | 47 => ⟨S4x4x1024x32, .f32⟩
  | 48 => ⟨S4x4x1024x32, .f32⟩
  | 49 => ⟨S1x1x1024x32, .f32⟩
  | 50 => ⟨S4x4x1024x32, .f32⟩
  | 51 => ⟨S4x4x1024x32, .f32⟩
  | 52 => ⟨S4x4x1024x32, .f32⟩
  | 53 => ⟨S4x4x1024x64, .f32⟩
  | 54 => ⟨S4x4x1024x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S1024, .f32⟩
  | 64 => ⟨S1024x1, .f32⟩
  | 65 => ⟨S1x32, .f32⟩
  | 66 => ⟨S1024x32, .f32⟩
  | 67 => ⟨S1024x32, .f32⟩
  | 68 => ⟨S1024x32, .f32⟩
  | 69 => ⟨S1024x32, .f32⟩
  | 70 => ⟨S1024x32, .f32⟩
  | 71 => ⟨S4x4x1024x32, .f32⟩
  | 72 => ⟨S4x4x1024x32, .f32⟩
  | 73 => ⟨S1x1x1024x32, .f32⟩
  | 74 => ⟨S4x4x1024x32, .f32⟩
  | 75 => ⟨S4x4x1024x32, .f32⟩
  | 76 => ⟨S1x1x1024x32, .f32⟩
  | 77 => ⟨S4x4x1024x32, .f32⟩
  | 78 => ⟨S4x4x1024x32, .f32⟩
  | 79 => ⟨S4x4x1024x32, .f32⟩
  | 80 => ⟨S1x1x1024x32, .f32⟩
  | 81 => ⟨S4x4x1024x32, .f32⟩
  | 82 => ⟨S4x4x1024x32, .f32⟩
  | 83 => ⟨S1x1x1024x32, .f32⟩
  | 84 => ⟨S4x4x1024x32, .f32⟩
  | 85 => ⟨S4x4x1024x32, .f32⟩
  | 86 => ⟨S4x4x1024x32, .f32⟩
  | 87 => ⟨S4x4x1024x64, .f32⟩
  | 88 => ⟨S4x4x1024x128, .f32⟩
  | 89 => ⟨S4x1024x512, .f32⟩
  | 90 => ⟨S1x1x512, .f32⟩
  | 91 => ⟨S4x1024x512, .f32⟩
  | 92 => ⟨S4x1024x512, .f32⟩
  | 93 => ⟨S4x1024x512, .f32⟩
  | 94 => ⟨S_, .f32⟩
  | 95 => ⟨S4x1024x512, .f32⟩
  | 96 => ⟨S4x1024x512, .f32⟩
  | 97 => ⟨S4x1024x512, .f32⟩
  | 98 => ⟨S4x1024x512, .f32⟩
  | 99 => ⟨S4x1024x512, .i1⟩
  | 100 => ⟨S4x1024x512, .f32⟩
  | 101 => ⟨S4x1024x512, .f32⟩
  | 102 => ⟨S4x1024x512, .f32⟩
  | 103 => ⟨S4x1024x512, .f32⟩
  | 104 => ⟨S4x1024x512, .f32⟩
  | 105 => ⟨S4x1024x512, .f32⟩
  | 106 => ⟨S4x1024x512, .f32⟩
  | 107 => ⟨S4x1024x512, .f32⟩
  | 108 => ⟨S4x1024x512, .f32⟩
  | 109 => ⟨S_, .f32⟩
  | 110 => ⟨S4x1024x512, .f32⟩
  | 111 => ⟨S4x1024x512, .f32⟩
  | 112 => ⟨S4x1024x4x128, .f32⟩
  | 113 => ⟨S4x4x1024x128, .f32⟩
  | 114 => ⟨S4x1024x512, .f32⟩
  | 115 => ⟨S1x1x512, .f32⟩
  | 116 => ⟨S4x1024x512, .f32⟩
  | 117 => ⟨S4x1024x512, .f32⟩
  | 118 => ⟨S4x1024x512, .f32⟩
  | 119 => ⟨S_, .f32⟩
  | 120 => ⟨S4x1024x512, .f32⟩
  | 121 => ⟨S4x1024x512, .f32⟩
  | 122 => ⟨S4x1024x512, .f32⟩
  | 123 => ⟨S4x1024x512, .f32⟩
  | 124 => ⟨S4x1024x512, .i1⟩
  | 125 => ⟨S4x1024x512, .f32⟩
  | 126 => ⟨S4x1024x512, .f32⟩
  | 127 => ⟨S4x1024x512, .f32⟩
  | _ => ⟨S16x256x5664, .f32⟩

abbrev hbmTy0_3 (i : Nat) : BufTy := match i % 128 with
  | 0 => ⟨S4x1024x512, .f32⟩
  | 1 => ⟨S4x1024x512, .f32⟩
  | 2 => ⟨S4x1024x512, .f32⟩
  | 3 => ⟨S4x1024x512, .f32⟩
  | 4 => ⟨S4x1024x512, .f32⟩
  | 5 => ⟨S4x1024x512, .f32⟩
  | 6 => ⟨S_, .f32⟩
  | 7 => ⟨S4x1024x512, .f32⟩
  | 8 => ⟨S4x1024x512, .f32⟩
  | 9 => ⟨S4x1024x4x128, .f32⟩
  | 10 => ⟨S4x4x1024x128, .f32⟩
  | 11 => ⟨S4x4x1024x128, .f32⟩
  | 12 => ⟨S8x4x1024x128, .f32⟩
  | 13 => ⟨S4x4x1024x128, .f32⟩
  | 14 => ⟨S8x4x1024x128, .f32⟩
  | 15 => ⟨S4x4x1024x256, .f32⟩
  | 16 => ⟨S8x4x1024x256, .f32⟩
  | 17 => ⟨S4x4x1024x128, .f32⟩
  | 18 => ⟨S8x4x1024x128, .f32⟩
  | 19 => ⟨S8x4x128x256, .f32⟩
  | 20 => ⟨S8x4x16x64x128, .f32⟩
  | 21 => ⟨S8x4x16x64x128, .f32⟩
  | 22 => ⟨S8x4x16x64x256, .f32⟩
  | 23 => ⟨S8x4x16x64x128, .f32⟩
  | 24 => ⟨S_, .f32⟩
  | 25 => ⟨S_, .f32⟩
  | 26 => ⟨S8x4x16x64x128, .f32⟩
  | 27 => ⟨S8x4x16x1x128, .f32⟩
  | 28 => ⟨S8x4x16x64x128, .f32⟩
  | 29 => ⟨S8x4x16x64x128, .f32⟩
  | 30 => ⟨S8x4x16x64x128, .f32⟩
  | 31 => ⟨S8x4x16x64x128, .f32⟩
  | 32 => ⟨S8x4x16x64x128, .f32⟩
  | 33 => ⟨S8x4x16x64x64, .f32⟩
  | 34 => ⟨S_, .i1⟩
  | 35 => ⟨S64x64, .i1⟩
  | 36 => ⟨S64x64, .i32⟩
  | 37 => ⟨S_, .i32⟩
  | 38 => ⟨S64x64, .i32⟩
  | 39 => ⟨S64x64, .i32⟩
  | 40 => ⟨S64x64, .i32⟩
  | 41 => ⟨S64x64, .i1⟩
  | 42 => ⟨S_, .i1⟩
  | 43 => ⟨S64x64, .i1⟩
  | 44 => ⟨S64x64, .i1⟩
  | 45 => ⟨S_, .f32⟩
  | 46 => ⟨S_, .f32⟩
  | 47 => ⟨S8x4x16x64x64, .i1⟩
  | 48 => ⟨S8x4x16x64x64, .f32⟩
  | 49 => ⟨S8x4x16x64x64, .f32⟩
  | 50 => ⟨S8x4x16x64x256, .f32⟩
  | 51 => ⟨S8x4x16x64x128, .f32⟩
  | 52 => ⟨S8x4x16x64x128, .f32⟩
  | 53 => ⟨S8x4x16x64x128, .f32⟩
  | 54 => ⟨S8x4x16x64x128, .f32⟩
  | 55 => ⟨S16x8x4x128x256, .f32⟩
  | 56 => ⟨S8x4x16x128, .f32⟩
  | 57 => ⟨S8x4x16x128, .f32⟩
  | 58 => ⟨S16x8x4x128, .f32⟩
  | 59 => ⟨S1x8x4x128, .f32⟩
  | 60 => ⟨S8x4x128, .f32⟩
  | 61 => ⟨S8x4x128x1, .f32⟩
  | 62 => ⟨S8x4x128x256, .f32⟩
  | 63 => ⟨S8x4x128x256, .f32⟩
  | 64 => ⟨S1x8x4x128x256, .f32⟩
  | 65 => ⟨S8x4x128x256, .f32⟩
  | 66 => ⟨S8x4x128x256, .f32⟩
  | 67 => ⟨S1x8x4x128, .f32⟩
  | 68 => ⟨S8x4x128, .f32⟩
  | 69 => ⟨S8x4x128x1, .f32⟩
  | 70 => ⟨S8x4x128x256, .f32⟩
  | 71 => ⟨S8x4x128x256, .f32⟩
  | 72 => ⟨S1x8x4x128x256, .f32⟩
  | 73 => ⟨S8x4x128x256, .f32⟩
  | 74 => ⟨S8x4x128x256, .f32⟩
  | 75 => ⟨S1x8x4x128, .f32⟩
  | 76 => ⟨S8x4x128, .f32⟩
  | 77 => ⟨S8x4x128x1, .f32⟩
  | 78 => ⟨S8x4x128x256, .f32⟩
  | 79 => ⟨S8x4x128x256, .f32⟩
  | 80 => ⟨S1x8x4x128x256, .f32⟩
  | 81 => ⟨S8x4x128x256, .f32⟩
  | 82 => ⟨S8x4x128x256, .f32⟩
  | 83 => ⟨S1x8x4x128, .f32⟩
  | 84 => ⟨S8x4x128, .f32⟩
  | 85 => ⟨S8x4x128x1, .f32⟩
  | 86 => ⟨S8x4x128x256, .f32⟩
  | 87 => ⟨S8x4x128x256, .f32⟩
  | 88 => ⟨S1x8x4x128x256, .f32⟩
  | 89 => ⟨S8x4x128x256, .f32⟩
  | 90 => ⟨S8x4x128x256, .f32⟩
  | 91 => ⟨S1x8x4x128, .f32⟩
  | 92 => ⟨S8x4x128, .f32⟩
  | 93 => ⟨S8x4x128x1, .f32⟩
  | 94 => ⟨S8x4x128x256, .f32⟩
  | 95 => ⟨S8x4x128x256, .f32⟩
  | 96 => ⟨S1x8x4x128x256, .f32⟩
  | 97 => ⟨S8x4x128x256, .f32⟩
  | 98 => ⟨S8x4x128x256, .f32⟩
  | 99 => ⟨S1x8x4x128, .f32⟩
  | 100 => ⟨S8x4x128, .f32⟩
  | 101 => ⟨S8x4x128x1, .f32⟩
  | 102 => ⟨S8x4x128x256, .f32⟩
  | 103 => ⟨S8x4x128x256, .f32⟩
  | 104 => ⟨S1x8x4x128x256, .f32⟩
  | 105 => ⟨S8x4x128x256, .f32⟩
  | 106 => ⟨S8x4x128x256, .f32⟩
  | 107 => ⟨S1x8x4x128, .f32⟩
  | 108 => ⟨S8x4x128, .f32⟩
  | 109 => ⟨S8x4x128x1, .f32⟩
  | 110 => ⟨S8x4x128x256, .f32⟩
  | 111 => ⟨S8x4x128x256, .f32⟩
  | 112 => ⟨S1x8x4x128x256, .f32⟩
  | 113 => ⟨S8x4x128x256, .f32⟩
  | 114 => ⟨S8x4x128x256, .f32⟩
  | 115 => ⟨S1x8x4x128, .f32⟩
  | 116 => ⟨S8x4x128, .f32⟩
  | 117 => ⟨S8x4x128x1, .f32⟩
  | 118 => ⟨S8x4x128x256, .f32⟩
  | 119 => ⟨S8x4x128x256, .f32⟩
  | 120 => ⟨S1x8x4x128x256, .f32⟩
  | 121 => ⟨S8x4x128x256, .f32⟩
  | 122 => ⟨S8x4x128x256, .f32⟩
  | 123 => ⟨S1x8x4x128, .f32⟩
  | 124 => ⟨S8x4x128, .f32⟩
  | 125 => ⟨S8x4x128x1, .f32⟩
  | 126 => ⟨S8x4x128x256, .f32⟩
  | 127 => ⟨S8x4x128x256, .f32⟩
  | _ => ⟨S16x256x5664, .f32⟩

abbrev hbmTy0_4 (i : Nat) : BufTy := match i % 128 with
  | 0 => ⟨S1x8x4x128x256, .f32⟩
  | 1 => ⟨S8x4x128x256, .f32⟩
  | 2 => ⟨S8x4x128x256, .f32⟩
  | 3 => ⟨S1x8x4x128, .f32⟩
  | 4 => ⟨S8x4x128, .f32⟩
  | 5 => ⟨S8x4x128x1, .f32⟩
  | 6 => ⟨S8x4x128x256, .f32⟩
  | 7 => ⟨S8x4x128x256, .f32⟩
  | 8 => ⟨S1x8x4x128x256, .f32⟩
  | 9 => ⟨S8x4x128x256, .f32⟩
  | 10 => ⟨S8x4x128x256, .f32⟩
  | 11 => ⟨S1x8x4x128, .f32⟩
  | 12 => ⟨S8x4x128, .f32⟩
  | 13 => ⟨S8x4x128x1, .f32⟩
  | 14 => ⟨S8x4x128x256, .f32⟩
  | 15 => ⟨S8x4x128x256, .f32⟩
  | 16 => ⟨S1x8x4x128x256, .f32⟩
  | 17 => ⟨S8x4x128x256, .f32⟩
  | 18 => ⟨S8x4x128x256, .f32⟩
  | 19 => ⟨S1x8x4x128, .f32⟩
  | 20 => ⟨S8x4x128, .f32⟩
  | 21 => ⟨S8x4x128x1, .f32⟩
  | 22 => ⟨S8x4x128x256, .f32⟩
  | 23 => ⟨S8x4x128x256, .f32⟩
  | 24 => ⟨S1x8x4x128x256, .f32⟩
  | 25 => ⟨S8x4x128x256, .f32⟩
  | 26 => ⟨S8x4x128x256, .f32⟩
  | 27 => ⟨S1x8x4x128, .f32⟩
  | 28 => ⟨S8x4x128, .f32⟩
  | 29 => ⟨S8x4x128x1, .f32⟩
  | 30 => ⟨S8x4x128x256, .f32⟩
  | 31 => ⟨S8x4x128x256, .f32⟩
  | 32 => ⟨S1x8x4x128x256, .f32⟩
  | 33 => ⟨S8x4x128x256, .f32⟩
  | 34 => ⟨S8x4x128x256, .f32⟩
  | 35 => ⟨S1x8x4x128, .f32⟩
  | 36 => ⟨S8x4x128, .f32⟩
  | 37 => ⟨S8x4x128x1, .f32⟩
  | 38 => ⟨S8x4x128x256, .f32⟩
  | 39 => ⟨S8x4x128x256, .f32⟩
  | 40 => ⟨S1x8x4x128x256, .f32⟩
  | 41 => ⟨S8x4x128x256, .f32⟩
  | 42 => ⟨S8x4x128x256, .f32⟩
  | 43 => ⟨S1x8x4x128, .f32⟩
  | 44 => ⟨S8x4x128, .f32⟩
  | 45 => ⟨S8x4x128x1, .f32⟩
  | 46 => ⟨S8x4x128x256, .f32⟩
  | 47 => ⟨S8x4x128x256, .f32⟩
  | 48 => ⟨S1x8x4x128x256, .f32⟩
  | 49 => ⟨S8x4x128x256, .f32⟩
  | 50 => ⟨S8x4x128x256, .f32⟩
  | 51 => ⟨S1x8x4x128, .f32⟩
  | 52 => ⟨S8x4x128, .f32⟩
  | 53 => ⟨S8x4x128x1, .f32⟩
  | 54 => ⟨S8x4x128x256, .f32⟩
  | 55 => ⟨S8x4x128x256, .f32⟩
  | 56 => ⟨S1x8x4x128x256, .f32⟩
  | 57 => ⟨S8x4x128x256, .f32⟩
  | 58 => ⟨S8x4x128x256, .f32⟩
  | 59 => ⟨S1x8x4x128x256, .f32⟩
  | 60 => ⟨S1x8x4x128x256, .f32⟩
  | 61 => ⟨S1x8x4x128x256, .f32⟩
  | 62 => ⟨S1x8x4x128x256, .f32⟩
  | 63 => ⟨S1x8x4x128x256, .f32⟩
  | 64 => ⟨S1x8x4x128x256, .f32⟩
  | 65 => ⟨S1x8x4x128x256, .f32⟩
  | 66 => ⟨S1x8x4x128x256, .f32⟩
  | 67 => ⟨S1x8x4x128x256, .f32⟩
  | 68 => ⟨S1x8x4x128x256, .f32⟩
  | 69 => ⟨S1x8x4x128x256, .f32⟩
  | 70 => ⟨S1x8x4x128x256, .f32⟩
  | 71 => ⟨S1x8x4x128x256, .f32⟩
  | 72 => ⟨S1x8x4x128x256, .f32⟩
  | 73 => ⟨S1x8x4x128x256, .f32⟩
  | 74 => ⟨S1x8x4x128x256, .f32⟩
  | 75 => ⟨S16x8x4x128x256, .f32⟩
  | 76 => ⟨S8x4x16x64x256, .f32⟩
  | 77 => ⟨S8x4x16x64x256, .f32⟩
  | 78 => ⟨S8x4x1024x256, .f32⟩
  | 79 => ⟨S4x4x1024x256, .f32⟩
  | 80 => ⟨S4x4x1024x256, .f32⟩
  | 81 => ⟨S4x4x1024x256, .f32⟩
  | 82 => ⟨S4x4x1024x256, .f32⟩
  | 83 => ⟨S4x4x1024x256, .f32⟩
  | 84 => ⟨S_, .f32⟩
  | 85 => ⟨S4x4x1024, .f32⟩
  | 86 => ⟨S4x4x1024x1, .f32⟩
  | 87 => ⟨S_, .f32⟩
  | 88 => ⟨S4x4x1024x1, .f32⟩
  | 89 => ⟨S4x4x1024x1, .f32⟩
  | 90 => ⟨S_, .f32⟩
  | 91 => ⟨S4x4x1024x1, .f32⟩
  | 92 => ⟨S4x4x1024x1, .f32⟩
  | 93 => ⟨S4x4x1024x1, .f32⟩
  | 94 => ⟨S4x4x1024x256, .f32⟩
  | 95 => ⟨S4x4x1024x256, .f32⟩
  | 96 => ⟨S4x1024x4x256, .f32⟩
  | 97 => ⟨S4096x1024, .f32⟩
  | 98 => ⟨S4x4x128x256, .f32⟩
  | 99 => ⟨S4x4x128x256, .f32⟩
  | 100 => ⟨S16x1x4x128x256, .f32⟩
  | 101 => ⟨S16x1x4x128x256, .f32⟩
  | 102 => ⟨S16x2x4x128x256, .f32⟩
  | 103 => ⟨S4x4x2x4x128x256, .f32⟩
  | 104 => ⟨S8192x1024, .f32⟩
  | 105 => ⟨S_, .f32⟩
  | 106 => ⟨S4x4x2x4x128x256, .f32⟩
  | 107 => ⟨S8x4x2x4x128x256, .f32⟩
  | _ => ⟨S16x256x5664, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256x5664, .f32⟩

abbrev bufTy : (tb : Table) → Fin (tcTables nBuf tb) → BufTy
  | .hbm, ⟨i, _⟩ => hbmTy i
  | _, _ => ⟨S16x256x5664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call1_v0 : Ref sig .tc := ⟨.hbm, 52, rfl⟩
abbrev main_call1_call0_cst : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_v1 : Ref sig .tc := ⟨.hbm, 66, rfl⟩
abbrev main_v27 : Ref sig .tc := ⟨.hbm, 67, rfl⟩
abbrev main_cst_2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call2_call0_cst : Ref sig .tc := ⟨.hbm, 86, rfl⟩
abbrev main_call2_call0_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c : Ref sig .tc := ⟨.hbm, 96, rfl⟩
abbrev main_v53 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_0 : Ref sig .tc := ⟨.hbm, 104, rfl⟩
abbrev main_call3_v5 : Ref sig .tc := ⟨.hbm, 105, rfl⟩
abbrev main_v54 : Ref sig .tc := ⟨.hbm, 106, rfl⟩
abbrev main_cst_3 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_4 : Ref sig .tc := ⟨.hbm, 166, rfl⟩
abbrev main_v110 : Ref sig .tc := ⟨.hbm, 167, rfl⟩
abbrev main_v111 : Ref sig .tc := ⟨.hbm, 168, rfl⟩
abbrev main_cst_5 : Ref sig .tc := ⟨.hbm, 169, rfl⟩
abbrev main_v112 : Ref sig .tc := ⟨.hbm, 170, rfl⟩
abbrev main_v113 : Ref sig .tc := ⟨.hbm, 171, rfl⟩
abbrev main_cst_6 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_7 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_8 : Ref sig .tc := ⟨.hbm, 210, rfl⟩
abbrev main_v150 : Ref sig .tc := ⟨.hbm, 211, rfl⟩
abbrev main_v151 : Ref sig .tc := ⟨.hbm, 212, rfl⟩
abbrev main_cst_9 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_10 : Ref sig .tc := ⟨.hbm, 244, rfl⟩
abbrev main_v182 : Ref sig .tc := ⟨.hbm, 245, rfl⟩
abbrev main_v183 : Ref sig .tc := ⟨.hbm, 246, rfl⟩
abbrev main_cst_11 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_12 : Ref sig .tc := ⟨.hbm, 279, rfl⟩
abbrev main_v215 : Ref sig .tc := ⟨.hbm, 280, rfl⟩
abbrev main_v216 : Ref sig .tc := ⟨.hbm, 281, rfl⟩
abbrev main_cst_13 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_cst_14 : Ref sig .tc := ⟨.hbm, 313, rfl⟩
abbrev main_v247 : Ref sig .tc := ⟨.hbm, 314, rfl⟩
abbrev main_v248 : Ref sig .tc := ⟨.hbm, 315, rfl⟩
abbrev main_cst_15 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_call5_v0 : Ref sig .tc := ⟨.hbm, 349, rfl⟩
abbrev main_call5_call0_cst : Ref sig .tc := ⟨.hbm, 350, rfl⟩
abbrev main_call5_call0_v0 : Ref sig .tc := ⟨.hbm, 351, rfl⟩
abbrev main_call5_call0_v1 : Ref sig .tc := ⟨.hbm, 352, rfl⟩
abbrev main_call5_call0_v2 : Ref sig .tc := ⟨.hbm, 353, rfl⟩
abbrev main_call5_call0_v3 : Ref sig .tc := ⟨.hbm, 354, rfl⟩
abbrev main_call5_call0_v4 : Ref sig .tc := ⟨.hbm, 355, rfl⟩
abbrev main_call5_call0_v5 : Ref sig .tc := ⟨.hbm, 356, rfl⟩
abbrev main_call5_call0_v6 : Ref sig .tc := ⟨.hbm, 357, rfl⟩
abbrev main_call5_call0_v7 : Ref sig .tc := ⟨.hbm, 358, rfl⟩
abbrev main_call5_call0_v8 : Ref sig .tc := ⟨.hbm, 359, rfl⟩
abbrev main_call5_call0_v9 : Ref sig .tc := ⟨.hbm, 360, rfl⟩
abbrev main_call5_call0_v10 : Ref sig .tc := ⟨.hbm, 361, rfl⟩
abbrev main_call5_call0_v11 : Ref sig .tc := ⟨.hbm, 362, rfl⟩
abbrev main_call5_v1 : Ref sig .tc := ⟨.hbm, 363, rfl⟩
abbrev main_v281 : Ref sig .tc := ⟨.hbm, 364, rfl⟩
abbrev main_cst_16 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_call6_v0 : Ref sig .tc := ⟨.hbm, 374, rfl⟩
abbrev main_call6_call0_cst : Ref sig .tc := ⟨.hbm, 375, rfl⟩
abbrev main_call6_call0_v0 : Ref sig .tc := ⟨.hbm, 376, rfl⟩
abbrev main_call6_call0_v1 : Ref sig .tc := ⟨.hbm, 377, rfl⟩
abbrev main_call6_call0_v2 : Ref sig .tc := ⟨.hbm, 378, rfl⟩
abbrev main_call6_call0_v3 : Ref sig .tc := ⟨.hbm, 379, rfl⟩
abbrev main_call6_call0_v4 : Ref sig .tc := ⟨.hbm, 380, rfl⟩
abbrev main_call6_call0_v5 : Ref sig .tc := ⟨.hbm, 381, rfl⟩
abbrev main_call6_call0_v6 : Ref sig .tc := ⟨.hbm, 382, rfl⟩
abbrev main_call6_call0_v7 : Ref sig .tc := ⟨.hbm, 383, rfl⟩
abbrev main_call6_call0_v8 : Ref sig .tc := ⟨.hbm, 384, rfl⟩
abbrev main_call6_call0_v9 : Ref sig .tc := ⟨.hbm, 385, rfl⟩
abbrev main_call6_call0_v10 : Ref sig .tc := ⟨.hbm, 386, rfl⟩
abbrev main_call6_call0_v11 : Ref sig .tc := ⟨.hbm, 387, rfl⟩
abbrev main_call6_v1 : Ref sig .tc := ⟨.hbm, 388, rfl⟩
abbrev main_v290 : Ref sig .tc := ⟨.hbm, 389, rfl⟩
abbrev main_cst_17 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev main_v303 : Ref sig .tc := ⟨.hbm, 403, rfl⟩
abbrev main_v304 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_call7_call0_cst : Ref sig .tc := ⟨.hbm, 408, rfl⟩
abbrev main_call7_call0_v0 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_v311 : Ref sig .tc := ⟨.hbm, 413, rfl⟩
abbrev main_v312 : Ref sig .tc := ⟨.hbm, 414, rfl⟩
abbrev main_v313 : Ref sig .tc := ⟨.hbm, 415, rfl⟩
abbrev main_v314 : Ref sig .tc := ⟨.hbm, 416, rfl⟩
abbrev main_v315 : Ref sig .tc := ⟨.hbm, 417, rfl⟩
abbrev main_c_18 : Ref sig .tc := ⟨.hbm, 418, rfl⟩
abbrev main_v316 : Ref sig .tc := ⟨.hbm, 419, rfl⟩
abbrev main_call8_v0 : Ref sig .tc := ⟨.hbm, 420, rfl⟩
abbrev main_call8_c : Ref sig .tc := ⟨.hbm, 421, rfl⟩
abbrev main_call8_v1 : Ref sig .tc := ⟨.hbm, 422, rfl⟩
abbrev main_call8_v2 : Ref sig .tc := ⟨.hbm, 423, rfl⟩
abbrev main_call8_v3 : Ref sig .tc := ⟨.hbm, 424, rfl⟩
abbrev main_call8_v4 : Ref sig .tc := ⟨.hbm, 425, rfl⟩
abbrev main_call8_c_0 : Ref sig .tc := ⟨.hbm, 426, rfl⟩
abbrev main_call8_v5 : Ref sig .tc := ⟨.hbm, 427, rfl⟩
abbrev main_v317 : Ref sig .tc := ⟨.hbm, 428, rfl⟩
abbrev main_cst_19 : Ref sig .tc := ⟨.hbm, 429, rfl⟩
abbrev main_call9_v0 : Ref sig .tc := ⟨.hbm, 430, rfl⟩
abbrev main_call9_v1 : Ref sig .tc := ⟨.hbm, 431, rfl⟩
abbrev main_call9_v2 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev main_v325 : Ref sig .tc := ⟨.hbm, 440, rfl⟩
abbrev main_v326 : Ref sig .tc := ⟨.hbm, 441, rfl⟩
abbrev main_v327 : Ref sig .tc := ⟨.hbm, 442, rfl⟩
abbrev main_v328 : Ref sig .tc := ⟨.hbm, 443, rfl⟩
abbrev main_v329 : Ref sig .tc := ⟨.hbm, 444, rfl⟩
abbrev main_v330 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_v360 : Ref sig .tc := ⟨.hbm, 475, rfl⟩
abbrev main_v361 : Ref sig .tc := ⟨.hbm, 476, rfl⟩
abbrev main_v362 : Ref sig .tc := ⟨.hbm, 477, rfl⟩
abbrev main_v363 : Ref sig .tc := ⟨.hbm, 478, rfl⟩
abbrev main_v364 : Ref sig .tc := ⟨.hbm, 479, rfl⟩
abbrev main_v365 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_v370 : Ref sig .tc := ⟨.hbm, 485, rfl⟩
abbrev main_v371 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_v380 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_v393 : Ref sig .tc := ⟨.hbm, 508, rfl⟩
abbrev main_v394 : Ref sig .tc := ⟨.hbm, 509, rfl⟩
abbrev main_v395 : Ref sig .tc := ⟨.hbm, 510, rfl⟩
abbrev main_v396 : Ref sig .tc := ⟨.hbm, 511, rfl⟩
abbrev main_v397 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_v407 : Ref sig .tc := ⟨.hbm, 522, rfl⟩
abbrev main_v408 : Ref sig .tc := ⟨.hbm, 523, rfl⟩
abbrev main_v409 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_v414 : Ref sig .tc := ⟨.hbm, 529, rfl⟩
abbrev main_v415 : Ref sig .tc := ⟨.hbm, 530, rfl⟩
abbrev main_v416 : Ref sig .tc := ⟨.hbm, 531, rfl⟩
abbrev main_v417 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_v422 : Ref sig .tc := ⟨.hbm, 537, rfl⟩
abbrev main_v423 : Ref sig .tc := ⟨.hbm, 538, rfl⟩
abbrev main_v424 : Ref sig .tc := ⟨.hbm, 539, rfl⟩
abbrev main_v425 : Ref sig .tc := ⟨.hbm, 540, rfl⟩
abbrev main_v426 : Ref sig .tc := ⟨.hbm, 541, rfl⟩
abbrev main_v427 : Ref sig .tc := ⟨.hbm, 542, rfl⟩
abbrev main_v428 : Ref sig .tc := ⟨.hbm, 543, rfl⟩
abbrev main_v429 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_v433 : Ref sig .tc := ⟨.hbm, 548, rfl⟩
abbrev main_v434 : Ref sig .tc := ⟨.hbm, 549, rfl⟩
abbrev main_v435 : Ref sig .tc := ⟨.hbm, 550, rfl⟩
abbrev main_v436 : Ref sig .tc := ⟨.hbm, 551, rfl⟩
abbrev main_v437 : Ref sig .tc := ⟨.hbm, 552, rfl⟩
abbrev main_v438 : Ref sig .tc := ⟨.hbm, 553, rfl⟩
abbrev main_v439 : Ref sig .tc := ⟨.hbm, 554, rfl⟩
abbrev main_v440 : Ref sig .tc := ⟨.hbm, 555, rfl⟩
abbrev main_v441 : Ref sig .tc := ⟨.hbm, 556, rfl⟩
abbrev main_v442 : Ref sig .tc := ⟨.hbm, 557, rfl⟩
abbrev main_v443 : Ref sig .tc := ⟨.hbm, 558, rfl⟩
abbrev main_v444 : Ref sig .tc := ⟨.hbm, 559, rfl⟩
abbrev main_v445 : Ref sig .tc := ⟨.hbm, 560, rfl⟩
abbrev main_v446 : Ref sig .tc := ⟨.hbm, 561, rfl⟩
abbrev main_v447 : Ref sig .tc := ⟨.hbm, 562, rfl⟩
abbrev main_v448 : Ref sig .tc := ⟨.hbm, 563, rfl⟩
abbrev main_v449 : Ref sig .tc := ⟨.hbm, 564, rfl⟩
abbrev main_v450 : Ref sig .tc := ⟨.hbm, 565, rfl⟩
abbrev main_v451 : Ref sig .tc := ⟨.hbm, 566, rfl⟩
abbrev main_v452 : Ref sig .tc := ⟨.hbm, 567, rfl⟩
abbrev main_v453 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_v459 : Ref sig .tc := ⟨.hbm, 574, rfl⟩
abbrev main_v460 : Ref sig .tc := ⟨.hbm, 575, rfl⟩
abbrev main_v461 : Ref sig .tc := ⟨.hbm, 576, rfl⟩
abbrev main_v462 : Ref sig .tc := ⟨.hbm, 577, rfl⟩
abbrev main_v463 : Ref sig .tc := ⟨.hbm, 578, rfl⟩
abbrev main_v464 : Ref sig .tc := ⟨.hbm, 579, rfl⟩
abbrev main_v465 : Ref sig .tc := ⟨.hbm, 580, rfl⟩
abbrev main_v466 : Ref sig .tc := ⟨.hbm, 581, rfl⟩
abbrev main_v467 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_v471 : Ref sig .tc := ⟨.hbm, 586, rfl⟩
abbrev main_v472 : Ref sig .tc := ⟨.hbm, 587, rfl⟩
abbrev main_v473 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_cst_20 : Ref sig .tc := ⟨.hbm, 596, rfl⟩
abbrev main_v481 : Ref sig .tc := ⟨.hbm, 597, rfl⟩
abbrev main_v482 : Ref sig .tc := ⟨.hbm, 598, rfl⟩
abbrev main_cst_21 : Ref sig .tc := ⟨.hbm, 599, rfl⟩
abbrev main_v483 : Ref sig .tc := ⟨.hbm, 600, rfl⟩
abbrev main_v484 : Ref sig .tc := ⟨.hbm, 601, rfl⟩
abbrev main_cst_22 : Ref sig .tc := ⟨.hbm, 602, rfl⟩
abbrev main_v485 : Ref sig .tc := ⟨.hbm, 603, rfl⟩
abbrev main_v486 : Ref sig .tc := ⟨.hbm, 604, rfl⟩
abbrev main_v487 : Ref sig .tc := ⟨.hbm, 605, rfl⟩
abbrev main_v488 : Ref sig .tc := ⟨.hbm, 606, rfl⟩
abbrev main_v489 : Ref sig .tc := ⟨.hbm, 607, rfl⟩
abbrev main_v490 : Ref sig .tc := ⟨.hbm, 608, rfl⟩
abbrev main_v491 : Ref sig .tc := ⟨.hbm, 609, rfl⟩
abbrev main_v492 : Ref sig .tc := ⟨.hbm, 610, rfl⟩
abbrev main_v493 : Ref sig .tc := ⟨.hbm, 611, rfl⟩
abbrev main_v494 : Ref sig .tc := ⟨.hbm, 612, rfl⟩
abbrev main_v495 : Ref sig .tc := ⟨.hbm, 613, rfl⟩
abbrev main_v496 : Ref sig .tc := ⟨.hbm, 614, rfl⟩
abbrev main_v497 : Ref sig .tc := ⟨.hbm, 615, rfl⟩
abbrev main_v498 : Ref sig .tc := ⟨.hbm, 616, rfl⟩
abbrev main_cst_23 : Ref sig .tc := ⟨.hbm, 617, rfl⟩
abbrev main_v499 : Ref sig .tc := ⟨.hbm, 618, rfl⟩
abbrev main_v500 : Ref sig .tc := ⟨.hbm, 619, rfl⟩

abbrev nD : Nat := 1
abbrev τ : Topo := Topo.v7x

variable {F : FTy → Type} [FloatOps F]
-- ==== Kernel2.lean ====
abbrev S16x256x1024 : Shape := ⟨3, ![16, 256, 1024]⟩
abbrev S4x1024x1024 : Shape := ⟨3, ![4, 1024, 1024]⟩
abbrev S8x6144 : Shape := ⟨2, ![8, 6144]⟩
abbrev S1024 : Shape := ⟨1, ![1024]⟩
abbrev S1024x5664 : Shape := ⟨2, ![1024, 5664]⟩
abbrev S4096x1024 : Shape := ⟨2, ![4096, 1024]⟩
abbrev S8192x1024 : Shape := ⟨2, ![8192, 1024]⟩
abbrev S8x1x6144 : Shape := ⟨3, ![8, 1, 6144]⟩
abbrev S1x1024 : Shape := ⟨2, ![1, 1024]⟩
abbrev S1024x3072 : Shape := ⟨2, ![1024, 3072]⟩
abbrev S1024x2048 : Shape := ⟨2, ![1024, 2048]⟩
abbrev S1024x512 : Shape := ⟨2, ![1024, 512]⟩
abbrev S1024x32 : Shape := ⟨2, ![1024, 32]⟩
abbrev S_ : Shape := ⟨0, ![]⟩
abbrev S1024x96 : Shape := ⟨2, ![1024, 96]⟩
abbrev S1024x5760 : Shape := ⟨2, ![1024, 5760]⟩
abbrev S8192x5760 : Shape := ⟨2, ![8192, 5760]⟩
abbrev S1024x1024 : Shape := ⟨2, ![1024, 1024]⟩
abbrev S1x1x2048 : Shape := ⟨3, ![1, 1, 2048]⟩
abbrev S1024x1920 : Shape := ⟨2, ![1024, 1920]⟩
abbrev S1024x1 : Shape := ⟨2, ![1024, 1]⟩
abbrev S1x1x1024 : Shape := ⟨3, ![1, 1, 1024]⟩

abbrev nBuf : Space → Nat
  | .hbm => 19
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S4x1024x1024, .f32⟩
  | .hbm, ⟨2, _⟩ => ⟨S8x6144, .f32⟩
  | .hbm, ⟨3, _⟩ => ⟨S1024, .f32⟩
  | .hbm, ⟨4, _⟩ => ⟨S1024x5664, .f32⟩
  | .hbm, ⟨5, _⟩ => ⟨S4096x1024, .f32⟩
  | .hbm, ⟨6, _⟩ => ⟨S4096x1024, .f32⟩
  | .hbm, ⟨7, _⟩ => ⟨S8192x1024, .f32⟩
  | .hbm, ⟨8, _⟩ => ⟨S8x1x6144, .f32⟩
  | .hbm, ⟨9, _⟩ => ⟨S1x1024, .f32⟩
  | .hbm, ⟨10, _⟩ => ⟨S1024x3072, .f32⟩
  | .hbm, ⟨11, _⟩ => ⟨S1024x2048, .f32⟩
  | .hbm, ⟨12, _⟩ => ⟨S1024x512, .f32⟩
  | .hbm, ⟨13, _⟩ => ⟨S1024x32, .f32⟩
  | .hbm, ⟨14, _⟩ => ⟨S_, .f32⟩
  | .hbm, ⟨15, _⟩ => ⟨S1024x96, .f32⟩
  | .hbm, ⟨16, _⟩ => ⟨S1024x5760, .f32⟩
  | .hbm, ⟨17, _⟩ => ⟨S1024x5760, .bf16⟩
  | .hbm, ⟨18, _⟩ => ⟨S8192x5760, .f32⟩
  | .local _ .vmem, ⟨0, _⟩ => ⟨S1024x1024, .f32⟩
  | .local _ .vmem, ⟨1, _⟩ => ⟨S1024x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1024, .f32⟩
  | .local _ .vmem, ⟨5, _⟩ => ⟨S1024x1920, .bf16⟩
  | .local _ .vmem, ⟨6, _⟩ => ⟨S1024x1920, .bf16⟩
  | .local _ .vmem, ⟨7, _⟩ => ⟨S1024x1920, .f32⟩
  | .local _ .vmem, ⟨8, _⟩ => ⟨S1024x1920, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x256x1024 : Shape := ⟨3, ![16, 256, 1024]⟩
abbrev S4x1024x1024 : Shape := ⟨3, ![4, 1024, 1024]⟩
abbrev S8x6144 : Shape := ⟨2, ![8, 6144]⟩
abbrev S1024 : Shape := ⟨1, ![1024]⟩
abbrev S1024x5664 : Shape := ⟨2, ![1024, 5664]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5664 : Shape := ⟨3, ![16, 256, 5664]⟩
abbrev S4096x5664 : Shape := ⟨2, ![4096, 5664]⟩
abbrev S4x6144 : Shape := ⟨2, ![4, 6144]⟩
abbrev S4x1x6144 : Shape := ⟨3, ![4, 1, 6144]⟩
abbrev S4x1x1024 : Shape := ⟨3, ![4, 1, 1024]⟩
abbrev S4x1024 : Shape := ⟨2, ![4, 1024]⟩
abbrev S4x1024x1 : Shape := ⟨3, ![4, 1024, 1]⟩
abbrev S4x1024x5664 : Shape := ⟨3, ![4, 1024, 5664]⟩
abbrev S8192x5664 : Shape := ⟨2, ![8192, 5664]⟩
abbrev S8192x3072 : Shape := ⟨2, ![8192, 3072]⟩
abbrev S8192x32 : Shape := ⟨2, ![8192, 32]⟩
abbrev S8192x512 : Shape := ⟨2, ![8192, 512]⟩
abbrev S8192x2048 : Shape := ⟨2, ![8192, 2048]⟩
abbrev S8192x96 : Shape := ⟨2, ![8192, 96]⟩
abbrev S8192x5760 : Shape := ⟨2, ![8192, 5760]⟩

abbrev nBuf : Space → Nat
  | .hbm => 79
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x1024x1024, .f32⟩
  | .hbm, ⟨2, _⟩ => ⟨S8x6144, .f32⟩
  | .hbm, ⟨3, _⟩ => ⟨S1024, .f32⟩
  | .hbm, ⟨4, _⟩ => ⟨S1024x5664, .f32⟩
  | .hbm, ⟨5, _⟩ => ⟨S1x6144, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x5664, .f32⟩
  | .hbm, ⟨37, _⟩ => ⟨S4096x5664, .f32⟩
  | .hbm, ⟨38, _⟩ => ⟨S4x6144, .f32⟩
  | .hbm, ⟨39, _⟩ => ⟨S4x1x6144, .f32⟩
  | .hbm, ⟨40, _⟩ => ⟨S4x1x1024, .f32⟩
  | .hbm, ⟨41, _⟩ => ⟨S4x1x1024, .f32⟩
  | .hbm, ⟨42, _⟩ => ⟨S4x1x1024, .f32⟩
  | .hbm, ⟨43, _⟩ => ⟨S4x1x1024, .f32⟩
  | .hbm, ⟨44, _⟩ => ⟨S4x1x1024, .f32⟩
  | .hbm, ⟨45, _⟩ => ⟨S4x1x1024, .f32⟩
  | .hbm, ⟨46, _⟩ => ⟨S4x1024x1024, .f32⟩
  | .hbm, ⟨47, _⟩ => ⟨S_, .f32⟩
  | .hbm, ⟨48, _⟩ => ⟨S4x1024, .f32⟩
  | .hbm, ⟨49, _⟩ => ⟨S4x1024x1, .f32⟩
  | .hbm, ⟨50, _⟩ => ⟨S_, .f32⟩
  | .hbm, ⟨51, _⟩ => ⟨S4x1024x1, .f32⟩
  | .hbm, ⟨52, _⟩ => ⟨S4x1024x1, .f32⟩
  | .hbm, ⟨53, _⟩ => ⟨S_, .f32⟩
  | .hbm, ⟨54, _⟩ => ⟨S4x1024x1, .f32⟩
  | .hbm, ⟨55, _⟩ => ⟨S4x1024x1, .f32⟩
  | .hbm, ⟨56, _⟩ => ⟨S4x1024x1, .f32⟩
  | .hbm, ⟨57, _⟩ => ⟨S4x1024x1024, .f32⟩
  | .hbm, ⟨58, _⟩ => ⟨S4x1024x1024, .f32⟩
  | .hbm, ⟨59, _⟩ => ⟨S1x1x1024, .f32⟩
  | .hbm, ⟨60, _⟩ => ⟨S4x1024x1024, .f32⟩
  | .hbm, ⟨61, _⟩ => ⟨S4x1024x1024, .f32⟩
  | .hbm, ⟨62, _⟩ => ⟨S_, .f32⟩
  | .hbm, ⟨63, _⟩ => ⟨S4x1x1024, .f32⟩
  | .hbm, ⟨64, _⟩ => ⟨S4x1x1024, .f32⟩
  | .hbm, ⟨65, _⟩ => ⟨S4x1024x1024, .f32⟩
  | .hbm, ⟨66, _⟩ => ⟨S4x1024x1024, .f32⟩
  | .hbm, ⟨67, _⟩ => ⟨S4x1024x1024, .f32⟩
  | .hbm, ⟨68, _⟩ => ⟨S4x1024x1024, .f32⟩
  | .hbm, ⟨69, _⟩ => ⟨S4x1024x5664, .f32⟩
  | .hbm, ⟨70, _⟩ => ⟨S4096x5664, .f32⟩
  | .hbm, ⟨71, _⟩ => ⟨S8192x5664, .f32⟩
  | .hbm, ⟨72, _⟩ => ⟨S8192x3072, .f32⟩
  | .hbm, ⟨73, _⟩ => ⟨S8192x32, .f32⟩
  | .hbm, ⟨74, _⟩ => ⟨S8192x512, .f32⟩
  | .hbm, ⟨75, _⟩ => ⟨S8192x2048, .f32⟩
  | .hbm, ⟨76, _⟩ => ⟨S_, .f32⟩
  | .hbm, ⟨77, _⟩ => ⟨S8192x96, .f32⟩
  | .hbm, ⟨78, _⟩ => ⟨S8192x5760, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.InProj.lean ====
/-
  The input projection of one layer: what the idealized kernel leaves in its result array, index by index. The rows of
  the result are the tokens (the context's 4096, then the samples' 4096); a row is the normalized and modulated token
  times the projection weights, whose columns are laid out anew, 96 columns of zeros last.
-/
module

public import proofs.«01_k».proof.Proof.Gen.Kernel2Ideal.Value
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.InProj

open Idealize.ShloMosaic Idealize.ShloMosaic.TcCoe Idealize.SL.Sem
open Cert.Kernel2Ideal Cert.Kernel2Ideal.Gen

/-! ## The projection, index by index -/

/-- Element `k` of token `r`: the context's tokens first, then the samples'. -/
def token (xp : S16x256x1024.Idx → EReal) (xs : S4x1024x1024.Idx → EReal) (r : Fin 8192) (k : Fin 1024) : EReal :=
  if h : r.val < 4096 then xp (ix3 ⟨r.val / 256, by omega⟩ ⟨r.val % 256, by omega⟩ k)
  else xs (ix3 ⟨(r.val - 4096) / 1024, by omega⟩ ⟨(r.val - 4096) % 1024, by omega⟩ k)

/-- The row of the modulations that token `r` takes: row 0 for the context, one row for each sample. -/
def condOf (r : Fin 8192) : Fin 8 := ⟨if r.val < 4096 then 0 else 1 + (r.val - 4096) / 1024, by split <;> omega⟩

/-- Element `k` of a token `x`, normalized, weighted, scaled and shifted. -/
def hidden (x : Fin 1024 → EReal) (nw : Fin 1024 → EReal) (sc sh : Fin 1024 → EReal) (k : Fin 1024) : EReal :=
  x k * Ideal.rsqrt (Ideal.div (∑ i, x i * x i) (Ideal.ofBits FTy.f32 0x44800000#32) + Ideal.ofBits FTy.f32 0x358637BD#32)
      * nw k * (1 + sc k) + sh k

/-- Column `l` of the weights as they are laid out for the kernel: queries, keys, values and gate, then the two merge
    gates, the transform's channels, the low-rank columns, and zeros. -/
def weight (w : S1024x5664.Idx → EReal) (k : Fin 1024) (l : Fin 5760) : EReal :=
  if h : l.val < 3072 then w (ix2 k ⟨l.val, by omega⟩)
  else if h : l.val < 5120 then w (ix2 k ⟨l.val + 544, by omega⟩)
  else if h : l.val < 5632 then w (ix2 k ⟨l.val - 2016, by omega⟩)
  else if h : l.val < 5664 then w (ix2 k ⟨l.val - 2560, by omega⟩)
  else 0

/-- The projection at token `r` and column `l`. -/
def proj (xp : S16x256x1024.Idx → EReal) (xs : S4x1024x1024.Idx → EReal) (mods : S8x6144.Idx → EReal)
    (nw : S1024.Idx → EReal) (w : S1024x5664.Idx → EReal) (r : Fin 8192) (l : Fin 5760) : EReal :=
  ∑ k : Fin 1024, hidden (token xp xs r) (fun k => nw (ix1 k)) (fun k => mods (ix2 (condOf r) ⟨k.val + 1024, by omega⟩))
    (fun k => mods (ix2 (condOf r) ⟨k.val, by omega⟩)) k * weight w k l

/-! ## The kernel's side -/

variable (m : (ℓ : Loc nD τ sig) → Buf (Elt Ideal) ℓ) (c : Dev nD)

/-- What a grid point computes from its blocks. -/
theorem pay_apply (x : Vec Ideal S1024x1024 .f32) (nw : Vec Ideal S1x1024 .f32) (sh sc : Vec Ideal S1x1x1024 .f32)
    (w : Vec Ideal S1024x1920 .bf16) (j : S1024x1920.Idx) :
    k0_pay1 x nw sh sc w j = ∑ k : Fin 1024, hidden (fun k => x (ix2 (j 0) k)) (fun k => nw (ix2 0 k))
      (fun k => sc (ix3 0 0 k)) (fun k => sh (ix3 0 0 k)) k * w (ix2 k (j 1)) := by
  pointwise [k0_pay1]
  rfl

/-- The samples' and the context's tokens, one below the other, read at a token. -/
theorem tokens_apply (xp : S16x256x1024.Idx → EReal) (xs : S4x1024x1024.Idx → EReal) (hp : S16x256x1024.ShapeCasts S4096x1024)
    (hs : S4x1024x1024.ShapeCasts S4096x1024) (h) (r : Fin 8192) (k : Fin 1024) :
    concatenate S8192x1024 0 [⟨S4096x1024, shapeCast S4096x1024 xp hp⟩, ⟨S4096x1024, shapeCast S4096x1024 xs hs⟩] h (ix2 r k)
      = token xp xs r k := by
  have ep : ∀ (r : Fin 4096), shapeCast S4096x1024 xp hp (ix2 r k) = xp (ix3 ⟨r.val / 256, by omega⟩ ⟨r.val % 256, by omega⟩ k) := by
    intro r
    pointwise
  have es : ∀ (r : Fin 4096), shapeCast S4096x1024 xs hs (ix2 r k) = xs (ix3 ⟨r.val / 1024, by omega⟩ ⟨r.val % 1024, by omega⟩ k) := by
    intro r
    pointwise
  generalize shapeCast S4096x1024 xp hp = a at *
  generalize shapeCast S4096x1024 xs hs = b at *
  unfold token
  pointwise
  split
  · exact ep _
  · exact es _

/-- The tokens as the kernel finds them. -/
theorem entry_tokens (r : Fin 8192) (k : Fin 1024) : (V m c main_v2 : S8192x1024.Idx → EReal) (ix2 r k)
    = token (m (c.tc.loc main_arg0)) (m (c.tc.loc main_arg1)) r k := by
  unfold V
  after_reads_simp
  exact tokens_apply _ _ _ _ _ r k

/-- The modulations as the kernel finds them. -/
theorem entry_mods (r : Fin 8) (k : Fin 6144) : (V m c main_v3 : S8x1x6144.Idx → EReal) (ix3 r 0 k)
    = (m (c.tc.loc main_arg2) : S8x6144.Idx → EReal) (ix2 r k) := by
  unfold V
  after_reads_at

/-- The norm's weights as the kernel finds them. -/
theorem entry_norm (k : Fin 1024) : (V m c main_v4 : S1x1024.Idx → EReal) (ix2 0 k)
    = (m (c.tc.loc main_arg3) : S1024.Idx → EReal) (ix1 k) := by
  unfold V
  after_reads_at

/-- The projection's weights as the kernel finds them. -/
theorem entry_weight (k : Fin 1024) (l : Fin 5760) : (V m c main_v11 : S1024x5760.Idx → EReal) (ix2 k l)
    = weight (m (c.tc.loc main_arg4)) k l := by
  unfold V weight
  after_reads_at
  split
  · after_reads_at
  split
  · after_reads_at
    rw [dif_pos (by omega)]
    exact congrArg (m _) (congrArg (ix2 k) (Fin.ext (by simp only []; omega)))
  split
  · after_reads_at
    rw [dif_neg (by omega), dif_pos (by omega)]
    exact congrArg (m _) (congrArg (ix2 k) (Fin.ext (by simp only []; omega)))
  split
  · after_reads_at
    rw [dif_neg (by omega), dif_neg (by omega), dif_pos (by omega)]
    exact congrArg (m _) (congrArg (ix2 k) (Fin.ext (by simp only []; omega)))
  · after_reads_at
    rw [dif_neg (by omega), dif_neg (by omega), dif_neg (by omega)]

/-- Where each window's block lies at each grid point. -/
theorem index_facts : ∀ t : Fin cfg0.N,
    win0_0.index t = ![(grid0.coords t 1).val, 0]
    ∧ win0_1.index t = ![if (grid0.coords t 1).val < 4 then 0 else (grid0.coords t 1).val - 3, 0, 0]
    ∧ win0_2.index t = ![0, 0] ∧ win0_3.index t = ![0, (grid0.coords t 0).val]
    ∧ win0_4.index t = ![(grid0.coords t 1).val, (grid0.coords t 0).val] :=
  (by decide +kernel)

theorem condOf_block (R : Fin 8192) (n : ℕ) (a : Fin 1024) (h : R.val = n * 1024 + a.val) :
    (condOf R).val = if n < 4 then 0 else n - 3 := by
  unfold condOf
  split <;> split <;> simp only [] <;> omega

theorem blk_tokens (t : Fin cfg0.grid.N) (a : Fin 1024) (R : Fin 8192) (h : R.val = (grid0.coords t 1).val * 1024 + a.val) (x : Fin 1024) :
    (iblk m c 0 t : S1024x1024.Idx → EReal) (ix2 a x) = token (m (c.tc.loc main_arg0)) (m (c.tc.loc main_arg1)) R x := by
  obtain ⟨e0, -, -, -, -⟩ := index_facts t
  refine Eq.trans ?_ (entry_tokens m c R x)
  blk_ext [iblk, e0]

theorem blk_norm (t : Fin cfg0.grid.N) (x : Fin 1024) :
    (iblk m c 2 t : S1x1024.Idx → EReal) (ix2 0 x) = m (c.tc.loc main_arg3) (ix1 x) := by
  obtain ⟨-, -, e2, -, -⟩ := index_facts t
  refine Eq.trans ?_ (entry_norm m c x)
  blk_ext [iblk, e2]

theorem ld_scale (X : Vec Ideal S1x1x2048 .f32) (x : Fin 1024) : (View.ld X r0_3 : S1x1x1024.Idx → EReal) (ix3 0 0 x) = X (ix3 0 0 ⟨x.val + 1024, by omega⟩) := by
  refine congrArg X ?_
  funext a
  fin_cases a <;> exact Fin.ext (by simp <;> omega)

theorem ld_shift (X : Vec Ideal S1x1x2048 .f32) (x : Fin 1024) : (View.ld X r0_2 : S1x1x1024.Idx → EReal) (ix3 0 0 x) = X (ix3 0 0 ⟨x.val, by omega⟩) := by
  refine congrArg X ?_
  funext a
  fin_cases a <;> exact Fin.ext (by simp <;> omega)

theorem blk_scale (t : Fin cfg0.grid.N) (a : Fin 1024) (R : Fin 8192) (h : R.val = (grid0.coords t 1).val * 1024 + a.val) (x : Fin 1024) :
    View.ld (iblk m c 1 t : S1x1x2048.Idx → EReal) r0_3 (ix3 0 0 x) = m (c.tc.loc main_arg2) (ix2 (condOf R) ⟨x.val + 1024, by have := x.isLt; clear * - this; omega⟩) := by
  obtain ⟨-, e1, -, -, -⟩ := index_facts t
  have hq := condOf_block R (grid0.coords t 1).val a h
  generalize condOf R = q at hq ⊢
  generalize (if (grid0.coords t 1).val < 4 then 0 else (grid0.coords t 1).val - 3) = z at hq e1
  refine Eq.trans (ld_scale (iblk m c 1 t) x) (Eq.trans ?_ (entry_mods m c q ⟨x.val + 1024, by have := x.isLt; clear * - this; omega⟩))
  blk_ext [iblk, e1]

theorem blk_shift (t : Fin cfg0.grid.N) (a : Fin 1024) (R : Fin 8192) (h : R.val = (grid0.coords t 1).val * 1024 + a.val) (x : Fin 1024) :
    View.ld (iblk m c 1 t : S1x1x2048.Idx → EReal) r0_2 (ix3 0 0 x) = m (c.tc.loc main_arg2) (ix2 (condOf R) ⟨x.val, by have := x.isLt; clear * - this; omega⟩) := by
  obtain ⟨-, e1, -, -, -⟩ := index_facts t
  have hq := condOf_block R (grid0.coords t 1).val a h
  generalize condOf R = q at hq ⊢
  generalize (if (grid0.coords t 1).val < 4 then 0 else (grid0.coords t 1).val - 3) = z at hq e1
  refine Eq.trans (ld_shift (iblk m c 1 t) x) (Eq.trans ?_ (entry_mods m c q ⟨x.val, by have := x.isLt; clear * - this; omega⟩))
  blk_ext [iblk, e1]

theorem blk_weight (t : Fin cfg0.grid.N) (b : Fin 1920) (L : Fin 5760) (h : L.val = (grid0.coords t 0).val * 1920 + b.val) (x : Fin 1024) :
    (iblk m c 3 t : S1024x1920.Idx → EReal) (ix2 x b) = weight (m (c.tc.loc main_arg4)) x L := by
  obtain ⟨-, -, -, e3, -⟩ := index_facts t
  refine Eq.trans ?_ (entry_weight m c x L)
  blk_ext [iblk, e3]

theorem hidden_congr {x x' n n' s s' h h' : Fin 1024 → EReal} (hx : ∀ k, x k = x' k) (hn : ∀ k, n k = n' k) (hs : ∀ k, s k = s' k)
    (hh : ∀ k, h k = h' k) (k) : hidden x n s h k = hidden x' n' s' h' k := by
  rw [funext hx, funext hn, funext hs, funext hh]

/-- The result array of the kernel is the projection. -/
theorem final : (dats m 0 c).arrAt 4 cfg0.N = fun i : S8192x5760.Idx =>
    proj (m (c.tc.loc main_arg0)) (m (c.tc.loc main_arg1)) (m (c.tc.loc main_arg2)) (m (c.tc.loc main_arg3))
      (m (c.tc.loc main_arg4)) (i 0) (i 1) := by
  refine (dats m 0 c).arrAt_eq_of_covers 4 _ (by decide +kernel) fun t hf y => ?_
  obtain ⟨e0, e1, e2, e3, e4⟩ := index_facts t
  blk_simp [e4]
  rw [after0_4]
  frame_out
  refine (pay_apply _ _ _ _ _ y).trans ?_
  unfold proj
  have er : (((View.whole main_v12).slice (win0_4.rect t)).emb y 0 : Fin 8192).val = (grid0.coords t 1).val * 1024 + (y 0).val := by
    blk_simp [e4]
  have el : (((View.whole main_v12).slice (win0_4.rect t)).emb y 1 : Fin 5760).val = (grid0.coords t 0).val * 1920 + (y 1).val := by
    blk_simp [e4]
  generalize (((View.whole main_v12).slice (win0_4.rect t)).emb y 0 : Fin 8192) = R at *
  generalize (((View.whole main_v12).slice (win0_4.rect t)).emb y 1 : Fin 5760) = L at *
  have hc : ∀ x : Fin 1024, iblk m c 0 t (ix2 (n0 := 1024) (y 0) x) = token (m (c.tc.loc main_arg0)) (m (c.tc.loc main_arg1)) R x :=
    fun x => blk_tokens m c t (y 0) R er x
  have hn : ∀ x : Fin 1024, iblk m c 2 t (ix2 0 x) = m (c.tc.loc main_arg3) (ix1 x) := fun x => blk_norm m c t x
  have hsc : ∀ x : Fin 1024, View.ld (iblk m c 1 t) r0_3 (ix3 0 0 x) = m (c.tc.loc main_arg2) (ix2 (condOf R) ⟨x.val + 1024, by have := x.isLt; clear * - this; omega⟩) :=
    fun x => blk_scale m c t (y 0) R er x
  have hsh : ∀ x : Fin 1024, View.ld (iblk m c 1 t) r0_2 (ix3 0 0 x) = m (c.tc.loc main_arg2) (ix2 (condOf R) ⟨x.val, by have := x.isLt; clear * - this; omega⟩) :=
    fun x => blk_shift m c t (y 0) R er x
  have hw : ∀ x : Fin 1024, iblk m c 3 t (ix2 x (y 1)) = weight (m (c.tc.loc main_arg4)) x L := fun x => blk_weight m c t (y 1) L el x
  exact Finset.sum_congr rfl fun k _ => congrArg₂ (· * ·) (hidden_congr hc hn hsc hsh k) (hw k)

end Cert.InProj
-- ==== Proof.InProjRef.lean ====
/-
  The input projection of one layer: the reference's result, index by index, is the projection that the kernel's result
  is stated as.
-/
module

public import proofs.«01_k».proof.Proof.InProj
public import proofs.«01_k».proof.Proof.Gen.Reference2Ideal.Read

@[expose] public section

set_option maxRecDepth 16384

noncomputable section

namespace Cert.InProj

open Idealize.ShloMosaic Idealize.ShloMosaic.TcCoe Idealize.SL.Sem
open Cert.Reference2Ideal Cert.Reference2Ideal.Read

variable (xp : S16x256x1024.Idx → EReal) (xs : S4x1024x1024.Idx → EReal) (mods : S8x6144.Idx → EReal) (nw : S1024.Idx → EReal)
  (w : S1024x5664.Idx → EReal)

/-- The context's hidden activations, index by index. -/
theorem hidden_context (a : Fin 16) (b : Fin 256) (k : Fin 1024) : val_main_v26 (F := Ideal) xp mods nw (ix3 a b k)
    = hidden (fun k => xp (ix3 a b k)) (fun k => nw (ix1 k)) (fun k => mods (ix2 0 ⟨k.val + 1024, by omega⟩))
        (fun k => mods (ix2 0 ⟨k.val, by omega⟩)) k := by
  unfold hidden
  pointwise [val_main_v26, val_main_v25, val_main_v24, val_main_v23, val_main_v22, val_main_v21, val_main_cst_2, val_main_v20, val_main_v19,
    val_main_v18, val_main_v17, val_main_v16, val_main_v15, val_main_v14, val_main_v13, val_main_cst_1, val_main_v12, val_main_v11, val_main_cst_0,
    val_main_v10, val_main_v9, val_main_cst, val_main_v8, val_main_v3, val_main_v2, val_main_v1, val_main_v0]
  have e : (⟨1024 + k.val, by omega⟩ : Fin 6144) = ⟨k.val + 1024, by omega⟩ := Fin.ext (Nat.add_comm _ _)
  rw [e]

/-- The samples' hidden activations, index by index. -/
theorem hidden_samples (a : Fin 4) (b : Fin 1024) (k : Fin 1024) : val_main_v55 (F := Ideal) xs mods nw (ix3 a b k)
    = hidden (fun k => xs (ix3 a b k)) (fun k => nw (ix1 k)) (fun k => mods (ix2 ⟨1 + a.val, by omega⟩ ⟨k.val + 1024, by omega⟩))
        (fun k => mods (ix2 ⟨1 + a.val, by omega⟩ ⟨k.val, by omega⟩)) k := by
  unfold hidden
  pointwise [val_main_cst_3, val_main_cst_4, val_main_cst_5, val_main_cst_6, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55]
  have e : (⟨1024 + k.val, by omega⟩ : Fin 6144) = ⟨k.val + 1024, by omega⟩ := Fin.ext (Nat.add_comm _ _)
  rw [e]

/-- The product of the hidden activations and the weights, tokens one below the other. -/
theorem product (r : Fin 8192) (l : Fin 5664) : val_main_v58 (F := Ideal) xp xs mods nw w (ix2 r l)
    = ∑ k : Fin 1024, hidden (token xp xs r) (fun k => nw (ix1 k)) (fun k => mods (ix2 (condOf r) ⟨k.val + 1024, by omega⟩))
        (fun k => mods (ix2 (condOf r) ⟨k.val, by omega⟩)) k * w (ix2 k l) := by
  have ep : ∀ r : Fin 4096, val_main_v28 (F := Ideal) xp mods nw w (ix2 r l)
      = ∑ k : Fin 1024, val_main_v26 (F := Ideal) xp mods nw (ix3 ⟨r.val / 256, by omega⟩ ⟨r.val % 256, by omega⟩ k) * w (ix2 k l) := by
    intro r
    unfold val_main_v28 val_main_v27
    generalize val_main_v26 (F := Ideal) xp mods nw = h
    pointwise
  have es : ∀ r : Fin 4096, val_main_v57 (F := Ideal) xs mods nw w (ix2 r l)
      = ∑ k : Fin 1024, val_main_v55 (F := Ideal) xs mods nw (ix3 ⟨r.val / 1024, by omega⟩ ⟨r.val % 1024, by omega⟩ k) * w (ix2 k l) := by
    intro r
    unfold val_main_v57 val_main_v56
    generalize val_main_v55 (F := Ideal) xs mods nw = h
    pointwise
  unfold val_main_v58
  generalize val_main_v28 (F := Ideal) xp mods nw w = p at *
  generalize val_main_v57 (F := Ideal) xs mods nw w = s at *
  pointwise
  split
  · next hr =>
    refine (ep ⟨r.val, hr⟩).trans (Finset.sum_congr rfl fun k _ => congrArg (· * w (ix2 k l)) ?_)
    have hc : condOf r = 0 := Fin.ext (by simp [condOf, hr])
    have ht : token xp xs r = fun k => xp (ix3 ⟨r.val / 256, by omega⟩ ⟨r.val % 256, by omega⟩ k) := by
      funext k; simp only [token, hr, dite_true]
    rw [hc, ht]
    exact hidden_context xp mods nw _ _ k
  · next hr =>
    refine (es ⟨r.val - 4096, by omega⟩).trans (Finset.sum_congr rfl fun k _ => congrArg (· * w (ix2 k l)) ?_)
    have hc : condOf r = ⟨1 + (r.val - 4096) / 1024, by omega⟩ := Fin.ext (by simp [condOf, hr])
    have ht : token xp xs r = fun k => xs (ix3 ⟨(r.val - 4096) / 1024, by omega⟩ ⟨(r.val - 4096) % 1024, by omega⟩ k) := by
      funext k; simp only [token, hr, dite_false]
    rw [hc, ht]
    exact hidden_samples xs mods nw ⟨(r.val - 4096) / 1024, by omega⟩ _ k

/-- The reference's result, index by index. -/
theorem reference_result (r : Fin 8192) (l : Fin 5760) : val_main_v64 (F := Ideal) xp xs mods nw w (ix2 r l) = proj xp xs mods nw w r l := by
  have h := product xp xs mods nw w r
  unfold val_main_v64 val_main_v63 val_main_v62 val_main_v61 val_main_v60 val_main_v59 val_main_cst_7
  generalize val_main_v58 (F := Ideal) xp xs mods nw w = p at *
  unfold proj weight
  pointwise
  generalize hidden (token xp xs r) (fun k => nw (ix1 k)) (fun k => mods (ix2 (condOf r) ⟨k.val + 1024, by omega⟩))
    (fun k => mods (ix2 (condOf r) ⟨k.val, by omega⟩)) = x at *
  by_cases h1 : l.val < 3072
  · simp only [h1, dite_true, h]
  by_cases h2 : l.val < 5120
  · have e : 3616 + (l.val - 3072) = l.val + 544 := by omega
    have a1 : l.val - 3072 < 2048 := by omega
    simp only [h1, h2, a1, dite_true, dite_false, h, e]
  have a1 : ¬ l.val - 3072 < 2048 := by omega
  by_cases h3 : l.val < 5632
  · have e : 3104 + (l.val - 3072 - 2048) = l.val - 2016 := by omega
    have a2 : l.val - 3072 - 2048 < 512 := by omega
    simp only [h1, h2, h3, a1, a2, dite_true, dite_false, h, e]
  have a2 : ¬ l.val - 3072 - 2048 < 512 := by omega
  by_cases h4 : l.val < 5664
  · have e : 3072 + (l.val - 3072 - 2048 - 512) = l.val - 2560 := by omega
    have a3 : l.val - 3072 - 2048 - 512 < 32 := by omega
    simp only [h1, h2, h3, h4, a1, a2, a3, dite_true, dite_false, h, e]
  · have a3 : ¬ l.val - 3072 - 2048 - 512 < 32 := by omega
    simp only [h1, h2, h3, h4, a1, a2, a3, dite_false, mul_zero, Finset.sum_const_zero]

end Cert.InProj
-- ==== Proof.GlaKernel.lean ====
/-
  Gated linear attention, the kernel's side: what one grid point of the idealized kernel (a block of 1024 tokens and one
  head) leaves in its two output blocks, as a composition of named stages: sixteen chunks of 64 tokens, once from the
  first to the last and once from the last to the first.
-/
module

public import proofs.«01_k».proof.Proof.Gen.KernelIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Gla

open Idealize.ShloMosaic Idealize.ShloMosaic.TcCoe Idealize.SL.Sem
open Cert.KernelIdeal Cert.KernelIdeal.Gen

variable {F : FTy → Type} [FloatOps F]

/-! ## The stages of one chunk -/

/-- Rows `64 n` to `64 n + 63` of a block of 128 columns. -/
def rows (n : Fin 16) (x : Vec F S1024x128 .f32) : Vec F S64x128 .f32 :=
  View.ld x (Rect.unit (s := S1024x128) ![64 * n.val, 0] S64x128.size fun a => by
    fin_cases a <;> simp [S1024x128, S64x128]; omega)

/-- Rows `64 n` to `64 n + 63` of a block of 256 columns. -/
def rowsV (n : Fin 16) (x : Vec F S1024x256 .f32) : Vec F S64x256 .f32 :=
  View.ld x (Rect.unit (s := S1024x256) ![64 * n.val, 0] S64x256.size fun a => by
    fin_cases a <;> simp [S1024x256, S64x256]; omega)

/-- The chunk that job `k` of a direction works on: the `k`th from the front, or from the back. -/
def chunk : Bool → ℕ → Fin 16
  | false, k => ⟨k % 16, Nat.mod_lt _ (by decide)⟩
  | true, k => ⟨15 - k % 16, by omega⟩

/-- The blocks a grid point reads, after the rotary embedding and the gates: queries, keys, the gates' logarithms of both
    directions, values, and the states the two scans start from. -/
structure Blocks (F : FTy → Type) where
  q : Vec F S1024x128 .f32
  k : Vec F S1024x128 .f32
  g : Bool → Vec F S1024x128 .f32
  v : Vec F S1024x256 .f32
  s0 : Bool → Vec F S1x1x1x128x256 .f32

/-- The running sums of a chunk's gates: in the direction of the scan. -/
def cum (d : Bool) (g : Vec F S64x128 .f32) : FVec F S64x128 .f32 :=
  k0_pay25 (match d with | false => k0_pay19 | true => k0_pay20) g

/-- The sum of the whole chunk: the last row of the running sums, or the first. -/
def total : Bool → FVec F S64x128 .f32 → FVec F S1x128 .f32
  | false, b => k0_pay67 b
  | true, b => k0_pay72 b

/-- The positions that a position of the chunk attends to. -/
def mask : Bool → IVec S64x64 1
  | false => k0_pay17
  | true => k0_pay18

/-- What the chunk gives of its own: the masked products of queries and keys, times the values. -/
def within (d : Bool) (b : FVec F S64x128 .f32) (q k : Vec F S64x128 .f32) (v : Vec F S64x256 .f32) : FVec F S64x256 .f32 :=
  match d with
  | false => k0_pay265 (k0_pay232 (mask false) (k0_pay68 b q) (k0_pay69 b k)) v
  | true => k0_pay268 (k0_pay232 (mask true) (k0_pay68 b q) (k0_pay69 b k)) v

/-- The state a scan starts from: the sample's, or zero for the context. -/
def start (sel : BitVec 1) (s : Vec F S1x1x1x128x256 .f32) : FVec F S256x128 .f32 := k0_pay363 sel s

/-- The state after a chunk: the decayed state and the chunk's decayed keys times its values. -/
def step (d : Bool) (b : FVec F S64x128 .f32) (k : Vec F S64x128 .f32) (v : Vec F S64x256 .f32) (s : FVec F S256x128 .f32) :
    FVec F S256x128 .f32 :=
  k0_pay369 (k0_pay82 (total d b)) (k0_pay266 (k0_pay81 b (total d b) k) v) s

/-- What the chunk reads of the state before it, added to what it gives of its own. -/
def across : Bool → FVec F S64x256 .f32 → FVec F S64x128 .f32 → Vec F S64x128 .f32 → FVec F S256x128 .f32 → FVec F S64x256 .f32
  | false, o, b, q, s => k0_pay368 (k0_pay68 b q) (k0_pay366 o) (truncf .bf16 s bitsLt_bf16_f32) (constant S64x256 .f32 0x00000000#32)
  | true, o, b, q, s => k0_pay410 (k0_pay68 b q) s o

variable (B : Blocks F) (sel : BitVec 1) (d : Bool)

/-- The running sums of job `n`'s chunk. -/
def cumAt (n : ℕ) : FVec F S64x128 .f32 := cum d (rows (chunk d n) (B.g d))

/-- The state after job `n`, from the state before it. -/
def stepAt (n : ℕ) (s : FVec F S256x128 .f32) : FVec F S256x128 .f32 :=
  step d (cumAt B d n) (rows (chunk d n) B.k) (rowsV (chunk d n) B.v) s

/-- The state before job `n`: for the context, zero again every fourth job. -/
def stateAt : ℕ → FVec F S256x128 .f32
  | 0 => start sel (B.s0 d)
  | n + 1 => if (n + 1) % 4 = 0 then k0_pay388 sel (stepAt B d n (stateAt n)) else stepAt B d n (stateAt n)

/-- The output of job `n`, one row per position of its chunk. -/
def outAt (n : ℕ) : FVec F S64x256 .f32 :=
  across d (within d (cumAt B d n) (rows (chunk d n) B.q) (rows (chunk d n) B.k) (rowsV (chunk d n) B.v)) (cumAt B d n)
    (rows (chunk d n) B.q) (stateAt B sel d n)

/-- The state after every fourth job, as the kernel stores it. -/
def stateOut (n : ℕ) : FVec F S1x1x1x1x128x256 .f32 :=
  k0_pay387 (transpose S128x256 [1, 0] (stepAt B d n (stateAt B sel d n)) transposes_S256x128_p1_0_S128x256)

/-- The blocks of one grid point, from what its windows hold. -/
def blocksOf (x0 : Vec F S1024x128 .f32) (x1 : Vec F S1024x128 .f32) (x2 : Vec F S1024x256 .f32) (x3 : Vec F S1024x128 .f32)
    (x4 x5 : Vec F S128x128 .bf16) (x6 x7 : Vec F S1x128 .f32) (x8 x9 : Vec F S1x1024x128 .f32)
    (x10 : Vec F S1x2x1x128x256 .f32) : Blocks F where
  q := k0_pay15 (k0_pay8 x8) (k0_pay9 x9) (k0_pay11 x0) (k0_pay12 x0) (k0_pay13 x0) k0_pay14
  k := k0_pay16 (k0_pay8 x8) (k0_pay9 x9) k0_pay10 x1
  g := fun
    | false => k0_pay3 x3 x4 x6
    | true => k0_pay7 (k0_pay5 x3 x5 x7) (k0_pay6 x3 x5 x7)
  v := x2
  s0 := fun
    | false => View.ld x10 (Rect.unit ![0, 0, 0, 0, 0] S1x1x1x128x256.size inb_S1x2x1x128x256_S1x1x1x128x256_0_0_0_0_0)
    | true => View.ld x10 (Rect.unit ![0, 1, 0, 0, 0] S1x1x1x128x256.size inb_S1x2x1x128x256_S1x1x1x128x256_0_1_0_0_0)

end Cert.Gla
-- ==== Proof.GlaIdeal.lean ====
/-
  Gated linear attention over the extended reals: one scan over chunks of 64 tokens as plain sums, and the kernel's
  stages read at an index as those sums.
-/
module

public import proofs.«01_k».proof.Proof.GlaKernel
public import Idealize.ShloMosaic.Lib.ValueIdxRank6

@[expose] public section

set_option maxRecDepth 16384

noncomputable section

namespace Cert.Gla

open Idealize.ShloMosaic Idealize.ShloMosaic.TcCoe Idealize.SL.Sem Idealize.ShloMosaic.Ideal
open Cert.KernelIdeal Cert.KernelIdeal.Gen

/-! ## One scan -/

/-- The running sum of a chunk's gates, position `c` included. -/
def cumSum (g : Fin 64 → Fin 128 → EReal) (c : Fin 64) (x : Fin 128) : EReal := ∑ i : Fin 64, if i.val ≤ c.val then g i x else 0

/-- What a chunk gives of its own: queries times keys, each with its decay, up to the position, times the values. -/
def intra (q k g : Fin 64 → Fin 128 → EReal) (v : Fin 64 → Fin 256 → EReal) (c : Fin 64) (e : Fin 256) : EReal :=
  ∑ s : Fin 64, if s.val ≤ c.val then
    (∑ x : Fin 128, (q c x * Ideal.exp (cumSum g c x)) * (k s x * Ideal.exp (-(cumSum g s x)))) * v s e else 0

/-- What a chunk reads of the state before it. -/
def inter (q g : Fin 64 → Fin 128 → EReal) (s : Fin 128 → Fin 256 → EReal) (c : Fin 64) (e : Fin 256) : EReal :=
  ∑ x : Fin 128, (q c x * Ideal.exp (cumSum g c x)) * s x e

/-- The state after a chunk. -/
def after (k g : Fin 64 → Fin 128 → EReal) (v : Fin 64 → Fin 256 → EReal) (s : Fin 128 → Fin 256 → EReal) (x : Fin 128)
    (e : Fin 256) : EReal :=
  s x e * Ideal.exp (cumSum g 63 x) + ∑ c : Fin 64, (k c x * Ideal.exp (cumSum g 63 x - cumSum g c x)) * v c e

/-! ## The kernel's stages -/

/-- The row of the chunk at a position of the scan: backward scans start at the last row. -/
def pos : Bool → Fin 64 → Fin 64
  | false, c => c
  | true, c => Fin.rev c

theorem pos_pos (d : Bool) (c : Fin 64) : pos d (pos d c) = c := by
  cases d
  · rfl
  · exact Fin.rev_rev c

theorem sum_pos (d : Bool) (f : Fin 64 → EReal) : ∑ i, f i = ∑ i, f (pos d i) := by
  cases d
  · rfl
  · exact (Equiv.sum_comp Fin.revPerm f).symm

/-- The comparison of two positions below 64, as words. -/
theorem sge_word (c s : Fin 64) : IntOp.cmpi CmpIPredicate.sge (BitVec.ofNat 32 c.val) (BitVec.ofNat 32 s.val) = if s.val ≤ c.val then 1#1 else 0#1 := by
  revert c s; decide +kernel

theorem sle_word (c s : Fin 64) : IntOp.cmpi CmpIPredicate.sle (BitVec.ofNat 32 c.val) (BitVec.ofNat 32 s.val) = if c.val ≤ s.val then 1#1 else 0#1 := by
  revert c s; decide +kernel

/-- The mask of a direction, at positions of its scan. -/
theorem mask_read (d : Bool) (c s : Fin 64) : mask d (ix2 (pos d c) (pos d s)) = if s.val ≤ c.val then 1#1 else 0#1 := by
  cases d
  · unfold mask
    pointwise [k0_pay17]
    exact sge_word c s
  · unfold mask
    pointwise [k0_pay18]
    refine (sle_word (Fin.rev c) (Fin.rev s)).trans ?_
    simp only [Fin.val_rev]
    have := c.isLt
    have := s.isLt
    exact if_congr (by omega) rfl rfl

theorem word_one : (FloatOps.sitofp FTy.f32 (BitVec.setWidth 32 (1#1)) : Ideal .f32) = (1 : EReal) := by
  show (((BitVec.setWidth 32 (1#1)).toInt : ℝ) : EReal) = 1
  norm_num

theorem word_zero : (FloatOps.sitofp FTy.f32 (BitVec.setWidth 32 (0#1)) : Ideal .f32) = (0 : EReal) := by
  show (((BitVec.setWidth 32 (0#1)).toInt : ℝ) : EReal) = 0
  norm_num

/-- The triangle of ones of a direction. -/
def tri : Bool → FVec Ideal S64x64 .bf16
  | false => k0_pay19
  | true => k0_pay20

/-- The triangle of ones, at positions of its scan. -/
theorem tri_read (d : Bool) (c s : Fin 64) :
    (tri d (ix2 (pos d c) (pos d s)) : EReal) = if s.val ≤ c.val then 1 else 0 := by
  have h := mask_read d c s
  have e : (tri d (ix2 (pos d c) (pos d s)) : EReal)
      = (FloatOps.sitofp FTy.f32 (BitVec.setWidth 32 (mask d (ix2 (pos d c) (pos d s)))) : Ideal .f32) := by
    cases d <;> rfl
  rw [e, h]
  split
  · exact word_one
  · exact word_zero

theorem sum_bot {ι : Type} [Fintype ι] [DecidableEq ι] (f : ι → EReal) (i : ι) (h : f i = ⊥) : ∑ j, f j = ⊥ := by
  rw [← Finset.add_sum_erase _ _ (Finset.mem_univ i), h, EReal.bot_add]

/-- Adding the differences of the terms with themselves changes no sum whose terms are all below `⊤`: a term `⊥` has made it `⊥`. -/
theorem sum_add_sub_self {ι : Type} [Fintype ι] [DecidableEq ι] (f : ι → EReal) (h : ∀ i, f i ≠ ⊤) :
    ∑ i, f i + ∑ i, (f i - f i) = ∑ i, f i := by
  by_cases hb : ∃ i, f i = ⊥
  · obtain ⟨i, hi⟩ := hb
    rw [sum_bot f i hi, EReal.bot_add]
  · have : ∀ i, f i - f i = 0 := fun i => EReal.sub_self (h i) fun hi => hb ⟨i, hi⟩
    simp only [this, Finset.sum_const_zero, add_zero]

/-- The kernel's running sums, from the two halves of each gate. -/
theorem cum_read (d : Bool) (g : Vec Ideal S64x128 .f32) (h : ∀ i, g i ≠ (⊤ : EReal)) (c : Fin 64) (x : Fin 128) :
    cum d g (ix2 (pos d c) x) = cumSum (fun i y => g (ix2 (pos d i) y)) c x := by
  have e : ∀ t : FVec Ideal S64x64 .bf16, k0_pay25 t g (ix2 (pos d c) x)
      = ((∑ i, t (ix2 (pos d c) i) * g (ix2 i x) + ∑ i, t (ix2 (pos d c) i) * (g (ix2 i x) - g (ix2 i x)) : EReal)) := by
    intro t
    pointwise [k0_pay25]
  have e' : cum d g = k0_pay25 (tri d) g := by cases d <;> rfl
  rw [e', e, sum_pos d, sum_pos d (fun i => _ * (_ - _))]
  simp only [tri_read]
  refine Eq.trans ?_ (sum_add_sub_self (fun i => if i.val ≤ c.val then g (ix2 (pos d i) x) else (0 : EReal)) ?_)
  · congr 1 <;>
    · refine Finset.sum_congr rfl fun i _ => ?_
      split
      · rw [one_mul]
      · rw [zero_mul]; try exact (sub_zero _).symm
  · intro i
    split
    · exact h _
    · exact EReal.zero_ne_top

theorem total_read (d : Bool) (b : Vec Ideal S64x128 .f32) (x : Fin 128) : (total (F := Ideal) d b (ix2 0 x) : EReal) = b (ix2 (pos d 63) x) := by
  cases d
  · unfold total
    pointwise [k0_pay67]
    rfl
  · unfold total
    pointwise [k0_pay72]
    rfl

theorem select_ite {α : Type} (p : Prop) [Decidable p] (a b : α) : Scalar.select (if p then 1#1 else 0#1) a b = if p then a else b := by
  split <;> rfl

theorem within_read (d : Bool) (g q k : Vec Ideal S64x128 .f32) (h : ∀ i, g i ≠ (⊤ : EReal)) (v : Vec Ideal S64x256 .f32) (c : Fin 64) (e : Fin 256) :
    within d (cum d g) q k v (ix2 (pos d c) e)
      = intra (fun i y => q (ix2 (pos d i) y)) (fun i y => k (ix2 (pos d i) y)) (fun i y => g (ix2 (pos d i) y)) (fun i y => v (ix2 (pos d i) y)) c e := by
  have e1 : ∀ (b : Vec Ideal S64x128 .f32) (m : IVec S64x64 1), (k0_pay265 (k0_pay232 m (k0_pay68 b q) (k0_pay69 b k)) v (ix2 (pos d c) e) : EReal)
      = ∑ s, Scalar.select (m (ix2 (pos d c) s)) ((∑ x, q (ix2 (pos d c) x) * Ideal.exp (b (ix2 (pos d c) x)) * (k (ix2 s x) * Ideal.exp (0 - b (ix2 s x)))) * v (ix2 s e)) 0 := by
    intro b m
    pointwise [k0_pay265, k0_pay232, k0_pay68, k0_pay69, k0_pay264]
  have e2 : (within d (cum d g) q k v (ix2 (pos d c) e) : EReal) = k0_pay265 (k0_pay232 (mask d) (k0_pay68 (cum d g) q) (k0_pay69 (cum d g) k)) v (ix2 (pos d c) e) := by
    cases d
    · rfl
    · unfold within
      pointwise [k0_pay268, k0_pay265, k0_pay264, k0_pay267]
  rw [e2, e1, sum_pos d]
  simp only [mask_read, cum_read d g h, select_ite, zero_sub]
  rfl

theorem step_read (d : Bool) (g k : Vec Ideal S64x128 .f32) (h : ∀ i, g i ≠ (⊤ : EReal)) (v : Vec Ideal S64x256 .f32) (s : FVec Ideal S256x128 .f32) (e : Fin 256) (x : Fin 128) :
    step d (cum d g) k v s (ix2 e x)
      = after (fun i y => k (ix2 (pos d i) y)) (fun i y => g (ix2 (pos d i) y)) (fun i y => v (ix2 (pos d i) y)) (fun x e => s (ix2 e x)) x e := by
  have e1 : ∀ b : Vec Ideal S64x128 .f32, (step d b k v s (ix2 e x) : EReal) = s (ix2 e x) * Ideal.exp (total (F := Ideal) d b (ix2 0 x) : EReal) +
      ∑ i, v (ix2 i e) * (k (ix2 i x) * Ideal.exp ((total (F := Ideal) d b (ix2 0 x) : EReal) - b (ix2 i x))) := by
    intro b
    unfold step
    pointwise [k0_pay369, k0_pay82, k0_pay266, k0_pay81, k0_pay264]
  rw [e1, sum_pos d]
  simp only [total_read, cum_read d g h]
  unfold after
  congr 1
  exact Finset.sum_congr rfl fun i _ => mul_comm _ _

theorem across_read (d : Bool) (o : FVec Ideal S64x256 .f32) (g q : Vec Ideal S64x128 .f32) (h : ∀ i, g i ≠ (⊤ : EReal)) (s : FVec Ideal S256x128 .f32) (c : Fin 64) (e : Fin 256) :
    across d o (cum d g) q s (ix2 (pos d c) e)
      = o (ix2 (pos d c) e) + inter (fun i y => q (ix2 (pos d i) y)) (fun i y => g (ix2 (pos d i) y)) (fun x e => s (ix2 e x)) c e := by
  have e1 : ∀ b : Vec Ideal S64x128 .f32, (across d o b q s (ix2 (pos d c) e) : EReal)
      = o (ix2 (pos d c) e) + ∑ x, q (ix2 (pos d c) x) * Ideal.exp (b (ix2 (pos d c) x)) * s (ix2 e x) := by
    intro b
    cases d <;> unfold across
    · pointwise [k0_pay368, k0_pay68, k0_pay366, k0_pay410]
    · pointwise [k0_pay368, k0_pay68, k0_pay366, k0_pay410]
  rw [e1]
  simp only [cum_read d g h]
  rfl

theorem start_read (sel : BitVec 1) (s : Vec Ideal S1x1x1x128x256 .f32) (e : Fin 256) (x : Fin 128) :
    start sel s (ix2 e x) = (Scalar.select sel (s (ix5 0 0 0 x e)) 0 : EReal) := by
  unfold start
  pointwise [k0_pay363]

theorem stored_read (s : FVec Ideal S256x128 .f32) (e : Fin 256) (x : Fin 128) :
    k0_pay387 (transpose S128x256 [1, 0] s transposes_S256x128_p1_0_S128x256) (ix6 0 0 0 0 x e) = (s (ix2 e x) : EReal) := by
  pointwise [k0_pay387]

theorem reset_read (sel : BitVec 1) (s : FVec Ideal S256x128 .f32) (e : Fin 256) (x : Fin 128) :
    k0_pay388 sel s (ix2 e x) = (Scalar.select sel (s (ix2 e x)) 0 : EReal) := by
  pointwise [k0_pay388]

end Cert.Gla
-- ==== Proof.GlaBlock.lean ====
/-
  Gated linear attention: the two blocks that one grid point of the idealized kernel leaves are the named stages of its
  jobs, chunk by chunk.
-/
module

public import proofs.«01_k».proof.Proof.GlaKernel
public import Idealize.ShloMosaic.Lib.ValueIdxRank6

@[expose] public section

set_option maxRecDepth 16384

noncomputable section

namespace Cert.Gla

open Idealize.ShloMosaic Idealize.ShloMosaic.TcCoe Idealize.SL.Sem
open Cert.KernelIdeal Cert.KernelIdeal.Gen

variable {F : FTy → Type} [FloatOps F]

variable (B : Blocks F) (sel : BitVec 1)

/-- The states of one grid point: those of the forward scan after jobs 3, 7, 11 and 15, those of the backward scan in
    the order of the sequences. -/
def statesBlock (y : S1x4x2x1x128x256.Idx) : F .f32 :=
  stateOut B sel (decide ((y 2).val = 1)) (if (y 2).val = 1 then 15 - 4 * (y 1).val else 4 * (y 1).val + 3)
    (ix6 0 0 0 0 (y 4) (y 5))

/-- The job of a direction that works on chunk `n`. -/
def jobOf : Bool → ℕ → ℕ
  | false, n => n
  | true, n => 15 - n

/-- The outputs of a direction's sixteen jobs, one row per token. -/
def outBlock (d : Bool) (y : S1024x256.Idx) : F .f32 :=
  outAt B sel d (jobOf d ((y 0).val / 64)) (ix2 ⟨(y 0).val % 64, Nat.mod_lt _ (by decide)⟩ (y 1))

/-- A store of one state is the place of `statesBlock` it goes to. -/
theorem statesBlock_emb {m e : ℕ} (inb : ∀ a, (![0, m, e, 0, 0, 0] : Fin 6 → ℕ) a + S1x1x1x1x128x256.size a ≤ S1x4x2x1x128x256.size a)
    (w : Vec F S1x1x1x1x128x256 .f32) (hw : w = stateOut B sel (decide (e = 1)) (if e = 1 then 15 - 4 * m else 4 * m + 3))
    (x : (Rect.unit (s := S1x4x2x1x128x256) ![0, m, e, 0, 0, 0] S1x1x1x1x128x256.size inb).shape.Idx) :
    w x = statesBlock B sel ((Rect.unit (s := S1x4x2x1x128x256) ![0, m, e, 0, 0, 0] S1x1x1x1x128x256.size inb).emb x) := by
  subst hw
  have h1 : (x 1).val = 0 := Nat.lt_one_iff.mp (x 1).isLt
  have h2 : (x 2).val = 0 := Nat.lt_one_iff.mp (x 2).isLt
  have e1 : (((Rect.unit (s := S1x4x2x1x128x256) ![0, m, e, 0, 0, 0] S1x1x1x1x128x256.size inb).emb x) 1).val = m := by
    show m + 1 * (x 1).val = m; omega
  have e2 : (((Rect.unit (s := S1x4x2x1x128x256) ![0, m, e, 0, 0, 0] S1x1x1x1x128x256.size inb).emb x) 2).val = e := by
    show e + 1 * (x 2).val = e; omega
  unfold statesBlock
  rw [e1, e2]
  refine congrArg (stateOut B sel _ _) ?_
  funext a
  refine Fin.ext ?_
  match a with
  | ⟨0, _⟩ => exact Nat.lt_one_iff.mp (x 0).isLt
  | ⟨1, _⟩ => exact h1
  | ⟨2, _⟩ => exact h2
  | ⟨3, _⟩ => exact Nat.lt_one_iff.mp (x 3).isLt
  | ⟨4, _⟩ => show (x 4).val = 0 + 1 * (x 4).val; omega
  | ⟨5, _⟩ => show (x 5).val = 0 + 1 * (x 5).val; omega

/-- A store of one job's output is the rows of `outBlock` it goes to. -/
theorem outBlock_emb {o : ℕ} (inb : ∀ a, (![o, 0] : Fin 2 → ℕ) a + S64x256.size a ≤ S1024x256.size a)
    (d : Bool) (ho : o % 64 = 0) (w : Vec F S64x256 .f32) (hw : w = outAt B sel d (jobOf d (o / 64)))
    (x : (Rect.unit (s := S1024x256) ![o, 0] S64x256.size inb).shape.Idx) :
    w x = outBlock B sel d ((Rect.unit (s := S1024x256) ![o, 0] S64x256.size inb).emb x) := by
  subst hw
  have h0 : (x 0).val < 64 := (x 0).isLt
  have e0 : (((Rect.unit (s := S1024x256) ![o, 0] S64x256.size inb).emb x) 0).val = o + (x 0).val := by
    show o + 1 * (x 0).val = _; omega
  unfold outBlock
  refine congr (congrArg (fun t => outAt B sel d (jobOf d t)) (by rw [e0]; omega)) ?_
  funext a
  refine Fin.ext ?_
  match a with
  | ⟨0, _⟩ => show (x 0).val = (o + 1 * (x 0).val) % 64; omega
  | ⟨1, _⟩ => show (x 1).val = 0 + 1 * (x 1).val; omega

set_option maxHeartbeats 8000000 in
/-- What a grid point leaves in its block of states. -/
theorem states_block (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x2x1x128x256 .f32) (harg12 : arg12.IsWhole) (arg13 : Memref sig .tc .vmem S1024x256 .f32) (harg13 : arg13.IsWhole) (arg14 : Memref sig .tc .vmem S1x4x2x1x128x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x256 .f32) (harg19 : arg19.IsWhole)
    (x0 : Vec F S1024x128 .f32) (x1 : Vec F S1024x128 .f32) (x2 : Vec F S1024x256 .f32) (x3 : Vec F S1024x128 .f32) (x4 : Vec F S128x128 .bf16) (x5 : Vec F S128x128 .bf16) (x6 : Vec F S1x128 .f32) (x7 : Vec F S1x128 .f32) (x8 : Vec F S1x1024x128 .f32) (x9 : Vec F S1x1024x128 .f32) (x10 : Vec F S1x2x1x128x256 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = statesBlock (blocksOf x0 x1 x2 x3 x4 x5 x6 x7 x8 x9 x10) (Scalar.cmpi CmpIPredicate.sge (BitVec.ofNat 32 ↑(i 0)) 4#32) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)]
  funext y
  have hc := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 y
  revert hc
  unfold kernelRun0_A
  dsimp only
  intro hc
  refine View.canon_append_of_piecesOf (Val := Elt F) (e := .f32) (statesBlock (blocksOf x0 x1 x2 x3 x4 x5 x6 x7 x8 x9 x10) (Scalar.cmpi CmpIPredicate.sge (BitVec.ofNat 32 ↑(i 0)) 4#32)) [] [_, _, _, _, _, _, _, _]
    ⟨?_, ?_, ?_, ?_, ?_, ?_, ?_, ?_, trivial⟩ y hc
  all_goals
    intro x
    refine statesBlock_emb _ _ (by decide) _ ?_ x
    sl_unfold_run_names; sl_unfold_run_names; sl_unfold_run_names
    simp (disch := decide) only [View.readAt_eq_ld, Memref.IsWhole.read_unread, View.readCov_fill, View.ld_unit_lit]
    rfl

set_option maxHeartbeats 16000000 in
/-- What a grid point leaves in its block of outputs: the two directions added, each row divided by its root mean square. -/
theorem out_block (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x2x1x128x256 .f32) (harg12 : arg12.IsWhole) (arg13 : Memref sig .tc .vmem S1024x256 .f32) (harg13 : arg13.IsWhole) (arg14 : Memref sig .tc .vmem S1x4x2x1x128x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x256 .f32) (harg19 : arg19.IsWhole)
    (x0 : Vec F S1024x128 .f32) (x1 : Vec F S1024x128 .f32) (x2 : Vec F S1024x256 .f32) (x3 : Vec F S1024x128 .f32) (x4 : Vec F S128x128 .bf16) (x5 : Vec F S128x128 .bf16) (x6 : Vec F S1x128 .f32) (x7 : Vec F S1x128 .f32) (x8 : Vec F S1x1024x128 .f32) (x9 : Vec F S1x1024x128 .f32) (x10 : Vec F S1x2x1x128x256 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay1 (addf (outBlock (blocksOf x0 x1 x2 x3 x4 x5 x6 x7 x8 x9 x10) (Scalar.cmpi CmpIPredicate.sge (BitVec.ofNat 32 ↑(i 0)) 4#32) false)
          (outBlock (blocksOf x0 x1 x2 x3 x4 x5 x6 x7 x8 x9 x10) (Scalar.cmpi CmpIPredicate.sge (BitVec.ofNat 32 ↑(i 0)) 4#32) true)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)]
  unfold kernelRun0_A
  dsimp only
  rw [View.canon_cons_unit_lit _ _ _ (by decide)]
  refine congrArg k0_pay1 (Eq.trans (b := addf (shapeCast S1024x256 (outBlock (blocksOf x0 x1 x2 x3 x4 x5 x6 x7 x8 x9 x10) (Scalar.cmpi CmpIPredicate.sge (BitVec.ofNat 32 ↑(i 0)) 4#32) false) shapeCasts_S1024x256_S1024x256)
    (outBlock (blocksOf x0 x1 x2 x3 x4 x5 x6 x7 x8 x9 x10) (Scalar.cmpi CmpIPredicate.sge (BitVec.ofNat 32 ↑(i 0)) 4#32) true)) ?_ ?_)
  · sl_unfold_run_names; sl_unfold_run_names; sl_unfold_run_names
    refine congrArg₂ k0_pay450 ?_ ?_
    · rw [View.readCov_eq_canon']
      refine Eq.trans (b := View.ld (outBlock (blocksOf x0 x1 x2 x3 x4 x5 x6 x7 x8 x9 x10) (Scalar.cmpi CmpIPredicate.sge (BitVec.ofNat 32 ↑(i 0)) 4#32) false)
        (Rect.unit (s := S1024x256) ![0, 0] S1024x256.size inb_S1024x256_S1024x256_0_0)) (funext fun j => ?_) (View.ld_unit_lit _ _ (by decide))
      refine View.canon_append_of_piecesOf (Val := Elt F) (e := .f32) (outBlock (blocksOf x0 x1 x2 x3 x4 x5 x6 x7 x8 x9 x10) (Scalar.cmpi CmpIPredicate.sge (BitVec.ofNat 32 ↑(i 0)) 4#32) false)
        [_, _, _, _, _, _, _, _, _, _, _, _, _, _, _, _] [_, _, _, _, _, _, _, _, _, _, _, _, _, _, _, _]
        ⟨?_, ?_, ?_, ?_, ?_, ?_, ?_, ?_, ?_, ?_, ?_, ?_, ?_, ?_, ?_, ?_, trivial⟩ _ ?_
      all_goals first
        | exact View.cover_of_tiledL (s := S1024x256) _ ![64, 256] (by sl_kernel_rfl) _
        | (intro x
           refine outBlock_emb _ _ (by decide) _ (by decide) _ ?_ x
           simp (disch := decide) only [View.readAt_eq_ld, Memref.IsWhole.read_unread, ↓ View.readCov_skip,
             ↓ View.readCov_cons_toLoadRect, View.readCov_fill, View.ld_unit_lit]
           rfl)
    · rw [View.readCov_eq_canon']
      refine Eq.trans (b := View.ld (outBlock (blocksOf x0 x1 x2 x3 x4 x5 x6 x7 x8 x9 x10) (Scalar.cmpi CmpIPredicate.sge (BitVec.ofNat 32 ↑(i 0)) 4#32) true)
        (Rect.unit (s := S1024x256) ![0, 0] S1024x256.size inb_S1024x256_S1024x256_0_0)) (funext fun j => ?_) (View.ld_unit_lit _ _ (by decide))
      refine View.canon_append_of_piecesOf (Val := Elt F) (e := .f32) (outBlock (blocksOf x0 x1 x2 x3 x4 x5 x6 x7 x8 x9 x10) (Scalar.cmpi CmpIPredicate.sge (BitVec.ofNat 32 ↑(i 0)) 4#32) true)
        [_, _, _, _, _, _, _, _, _, _, _, _, _, _, _, _] [_, _, _, _, _, _, _, _, _, _, _, _, _, _, _, _]
        ⟨?_, ?_, ?_, ?_, ?_, ?_, ?_, ?_, ?_, ?_, ?_, ?_, ?_, ?_, ?_, ?_, trivial⟩ _ ?_
      all_goals first
        | exact View.cover_of_tiledL (s := S1024x256) _ ![64, 256] (by sl_kernel_rfl) _
        | (intro x
           refine outBlock_emb _ _ (by decide) _ (by decide) _ ?_ x
           simp (disch := decide) only [View.readAt_eq_ld, Memref.IsWhole.read_unread, ↓ View.readCov_skip,
             ↓ View.readCov_cons_toLoadRect, View.readCov_fill, View.ld_unit_lit]
           rfl)
  · rw [shapeCast_self]

end Cert.Gla
-- ==== Proof.GlaScan.lean ====
/-
  Gated linear attention over the extended reals: a whole scan, and the kernel's jobs read as the steps of scans. For the
  context every fourth job starts a new scan from zero; for a sample the sixteen jobs are one scan.
-/
module

public import proofs.«01_k».proof.Proof.GlaIdeal
public import proofs.«01_k».proof.Proof.GlaBlock

@[expose] public section

set_option maxRecDepth 16384

noncomputable section

namespace Cert.Gla

open Idealize.ShloMosaic Idealize.ShloMosaic.TcCoe Idealize.SL.Sem
open Cert.KernelIdeal Cert.KernelIdeal.Gen

/-- What a scan reads: queries, keys, gates and values of its chunks, and the state it starts from. -/
structure Scan where
  q : ℕ → Fin 64 → Fin 128 → EReal
  k : ℕ → Fin 64 → Fin 128 → EReal
  g : ℕ → Fin 64 → Fin 128 → EReal
  v : ℕ → Fin 64 → Fin 256 → EReal
  s0 : Fin 128 → Fin 256 → EReal

namespace Scan

/-- The state before chunk `n`. -/
def state (S : Scan) : ℕ → Fin 128 → Fin 256 → EReal
  | 0 => S.s0
  | n + 1 => after (S.k n) (S.g n) (S.v n) (S.state n)

/-- The output of chunk `n`. -/
def out (S : Scan) (n : ℕ) (c : Fin 64) (e : Fin 256) : EReal :=
  intra (S.q n) (S.k n) (S.g n) (S.v n) c e + inter (S.q n) (S.g n) (S.state n) c e

/-- Two scans read the same in their first `N` chunks. -/
structure Agree (S T : Scan) (N : ℕ) : Prop where
  q : ∀ n, n < N → ∀ c x, S.q n c x = T.q n c x
  k : ∀ n, n < N → ∀ c x, S.k n c x = T.k n c x
  g : ∀ n, n < N → ∀ c x, S.g n c x = T.g n c x
  v : ∀ n, n < N → ∀ c x, S.v n c x = T.v n c x
  s0 : ∀ x e, S.s0 x e = T.s0 x e

theorem Agree.state {S T : Scan} {N : ℕ} (h : Agree S T N) : ∀ n, n ≤ N → S.state n = T.state n
  | 0, _ => by
    funext x e
    exact h.s0 x e
  | n + 1, hn => by
    show after _ _ _ _ = after _ _ _ _
    rw [h.state n (by omega), funext fun c => funext (h.k n (by omega) c), funext fun c => funext (h.g n (by omega) c),
      funext fun c => funext (h.v n (by omega) c)]

theorem Agree.out {S T : Scan} {N : ℕ} (h : Agree S T N) (n : ℕ) (hn : n < N) (c : Fin 64) (e : Fin 256) : S.out n c e = T.out n c e := by
  unfold Scan.out
  rw [h.state n (by omega), funext fun c => funext (h.q n hn c), funext fun c => funext (h.k n hn c),
    funext fun c => funext (h.g n hn c), funext fun c => funext (h.v n hn c)]

end Scan

theorem rows_apply (n : Fin 16) (x : Vec Ideal S1024x128 .f32) (c : Fin 64) (y : Fin 128) :
    (rows n x (ix2 c y) : EReal) = x (ix2 ⟨64 * n.val + c.val, by omega⟩ y) := by
  refine congrArg x ?_
  funext a
  fin_cases a <;> exact Fin.ext (by simp)

theorem rowsV_apply (n : Fin 16) (x : Vec Ideal S1024x256 .f32) (c : Fin 64) (y : Fin 256) :
    (rowsV n x (ix2 c y) : EReal) = x (ix2 ⟨64 * n.val + c.val, by omega⟩ y) := by
  refine congrArg x ?_
  funext a
  fin_cases a <;> exact Fin.ext (by simp)

variable (B : Blocks Ideal) (d : Bool)

/-- The row that a position of a chunk of a direction reads. -/
def row (d : Bool) (n : ℕ) (c : Fin 64) : Fin 1024 := ⟨64 * (chunk d n).val + (pos d c).val, by omega⟩

/-- The scan that a direction's jobs from job `n0` on make. -/
def scanOf (n0 : ℕ) (s0 : Fin 128 → Fin 256 → EReal) : Scan where
  q n c x := B.q (ix2 (row d (n0 + n) c) x)
  k n c x := B.k (ix2 (row d (n0 + n) c) x)
  g n c x := B.g d (ix2 (row d (n0 + n) c) x)
  v n c e := B.v (ix2 (row d (n0 + n) c) e)
  s0 := s0

variable (h : ∀ i, B.g d i ≠ (⊤ : EReal))
include h

theorem stepAt_read (n0 n : ℕ) (s0 : Fin 128 → Fin 256 → EReal) (s : FVec Ideal S256x128 .f32)
    (hs : ∀ x e, s (ix2 e x) = (scanOf B d n0 s0).state n x e) (x : Fin 128) (e : Fin 256) :
    stepAt B d (n0 + n) s (ix2 e x) = (scanOf B d n0 s0).state (n + 1) x e := by
  unfold stepAt cumAt
  have hg : ∀ i, rows (chunk d (n0 + n)) (B.g d) i ≠ (⊤ : EReal) := fun i => h _
  rw [step_read d _ _ hg]
  simp only [rows_apply, rowsV_apply, hs]
  rfl

theorem outAt_read (sel : BitVec 1) (n0 n : ℕ) (s0 : Fin 128 → Fin 256 → EReal)
    (hs : ∀ x e, stateAt B sel d (n0 + n) (ix2 e x) = (scanOf B d n0 s0).state n x e) (c : Fin 64) (e : Fin 256) :
    outAt B sel d (n0 + n) (ix2 (pos d c) e) = (scanOf B d n0 s0).out n c e := by
  unfold outAt cumAt
  have hg : ∀ i, rows (chunk d (n0 + n)) (B.g d) i ≠ (⊤ : EReal) := fun i => h _
  rw [across_read d _ _ _ hg, within_read d _ _ _ hg]
  simp only [rows_apply, rowsV_apply, hs]
  rfl

/-- A sample's state before job `n`. -/
theorem state_sample (s0 : Fin 128 → Fin 256 → EReal) (h0 : ∀ x e, B.s0 d (ix5 0 0 0 x e) = s0 x e) :
    ∀ (n : ℕ) (x : Fin 128) (e : Fin 256), stateAt B 1#1 d n (ix2 e x) = (scanOf B d 0 s0).state n x e
  | 0, x, e => by
    unfold stateAt
    rw [start_read]
    exact h0 x e
  | n + 1, x, e => by
    have e1 := stepAt_read B d h 0 n s0 (stateAt B 1#1 d n) (fun x e => state_sample s0 h0 n x e) x e
    rw [Nat.zero_add] at e1
    unfold stateAt
    split
    · rw [reset_read]
      exact e1
    · exact e1

/-- A context sequence's state before its `r`th job: each starts from zero. -/
theorem state_prompt (m : ℕ) : ∀ (r : ℕ) (_ : r < 4) (x : Fin 128) (e : Fin 256),
    stateAt B 0#1 d (4 * m + r) (ix2 e x) = (scanOf B d (4 * m) fun _ _ => 0).state r x e
  | 0, _, x, e => by
    cases m with
    | zero =>
      show stateAt B 0#1 d 0 (ix2 e x) = _
      unfold stateAt
      rw [start_read]
      rfl
    | succ m =>
      show stateAt B 0#1 d (4 * m + 3 + 1) (ix2 e x) = _
      unfold stateAt
      rw [if_pos (by omega), reset_read]
      rfl
  | r + 1, hr, x, e => by
    have e1 := stepAt_read B d h (4 * m) r (fun _ _ => 0) (stateAt B 0#1 d (4 * m + r)) (fun x e => state_prompt m r (by omega) x e) x e
    show stateAt B 0#1 d (4 * m + r + 1) (ix2 e x) = _
    unfold stateAt
    rw [if_neg (by omega)]
    exact e1

/-- The state that the kernel stores after a context sequence. -/
theorem stateOut_prompt (m : ℕ) (x : Fin 128) (e : Fin 256) :
    stateOut B 0#1 d (4 * m + 3) (ix6 0 0 0 0 x e) = (scanOf B d (4 * m) fun _ _ => 0).state 4 x e := by
  unfold stateOut
  rw [stored_read]
  exact stepAt_read B d h (4 * m) 3 _ _ (fun x e => state_prompt B d h m 3 (by omega) x e) x e

/-- The output of a row of a sample. -/
theorem outBlock_sample (s0 : Fin 128 → Fin 256 → EReal) (h0 : ∀ x e, B.s0 d (ix5 0 0 0 x e) = s0 x e) (n : Fin 16) (c : Fin 64)
    (e : Fin 256) : outBlock B 1#1 d (ix2 (row d n.val c) e) = (scanOf B d 0 s0).out n.val c e := by
  have e1 := outAt_read B d h 1#1 0 n.val s0 (by rw [Nat.zero_add]; exact state_sample B d h s0 h0 n.val) c e
  rw [Nat.zero_add] at e1
  refine Eq.trans ?_ e1
  unfold outBlock
  have r1 : (row d n.val c).val / 64 = (chunk d n.val).val := by
    show (64 * _ + _) / 64 = _
    have := (pos d c).isLt
    omega
  have r2 : (row d n.val c).val % 64 = (pos d c).val := by
    show (64 * _ + _) % 64 = _
    have := (pos d c).isLt
    omega
  have r3 : jobOf d (chunk d n.val).val = n.val := by
    cases d <;> simp only [jobOf, chunk] <;> omega
  show outAt B 1#1 d (jobOf d ((row d n.val c).val / 64)) (ix2 ⟨(row d n.val c).val % 64, _⟩ e) = _
  simp only [r1, r2, r3]

/-- The output of a row of a context sequence. -/
theorem outBlock_prompt (m : Fin 4) (r : Fin 4) (c : Fin 64)
    (e : Fin 256) : outBlock B 0#1 d (ix2 (row d (4 * m.val + r.val) c) e) = (scanOf B d (4 * m.val) fun _ _ => 0).out r.val c e := by
  have e1 := outAt_read B d h 0#1 (4 * m.val) r.val (fun _ _ => 0) (state_prompt B d h m.val r.val r.isLt) c e
  refine Eq.trans ?_ e1
  unfold outBlock
  have r1 : (row d (4 * m.val + r.val) c).val / 64 = (chunk d (4 * m.val + r.val)).val := by
    show (64 * _ + _) / 64 = _
    have := (pos d c).isLt
    omega
  have r2 : (row d (4 * m.val + r.val) c).val % 64 = (pos d c).val := by
    show (64 * _ + _) % 64 = _
    have := (pos d c).isLt
    omega
  have r3 : jobOf d (chunk d (4 * m.val + r.val)).val = 4 * m.val + r.val := by
    cases d <;> simp only [jobOf, chunk] <;> omega
  show outAt B 0#1 d (jobOf d ((row d (4 * m.val + r.val) c).val / 64)) (ix2 ⟨(row d (4 * m.val + r.val) c).val % 64, _⟩ e) = _
  simp only [r1, r2, r3]

end Cert.Gla
-- ==== Proof.GlaToken.lean ====
/-
  What the attention kernel's blocks hold at a token and a column: the gates, the rotated queries and keys, the values and
  the starting states, from what the kernel's windows hold.
-/
module

public import proofs.«01_k».proof.Proof.GlaScan

@[expose] public section

set_option maxRecDepth 16384

noncomputable section

namespace Cert.Gla

open Idealize.ShloMosaic Idealize.ShloMosaic.TcCoe Idealize.SL.Sem
open Cert.KernelIdeal Cert.KernelIdeal.Gen

/-- The softplus's logarithm at a logit. -/
def tail (z : EReal) : EReal := Ideal.log1p (Ideal.exp (0 - max z (-z)))

/-- The gate of a logit: its log-sigmoid over 16. -/
def gate (z : EReal) : EReal := (min z 0 - tail z) * Ideal.ofBits FTy.f32 0x3D800000#32

theorem tail_real (z : EReal) : ∃ l : ℝ, tail z = (l : EReal) := by
  have key : ∀ a : EReal, a ≠ ⊥ → ∃ l : ℝ, Ideal.log1p (Ideal.exp (0 - a)) = (l : EReal) := by
    intro a ha
    induction a with
    | bot => exact absurd rfl ha
    | top => exact ⟨Real.log 1, by
        show Ideal.log (1 + Ideal.exp (0 - ⊤)) = _
        rw [sub_eq_add_neg, zero_add, EReal.neg_top]
        show Ideal.log (1 + 0) = _
        rw [add_zero]
        show (if (1 : ℝ) ≤ 0 then ⊥ else (Real.log 1 : EReal)) = _
        rw [if_neg (by norm_num)]⟩
    | coe r => exact ⟨Real.log (1 + Real.exp (-r)), by
        show Ideal.log (1 + Ideal.exp (0 - (r : EReal))) = _
        rw [sub_eq_add_neg, zero_add, ← EReal.coe_neg]
        show Ideal.log (((1 : ℝ) : EReal) + ((Real.exp (-r) : ℝ) : EReal)) = _
        rw [← EReal.coe_add]
        show (if (1 + Real.exp (-r) : ℝ) ≤ 0 then ⊥ else (Real.log (1 + Real.exp (-r)) : EReal)) = _
        rw [if_neg (by have := Real.exp_pos (-r); linarith)]⟩
  refine key _ fun h => ?_
  rw [max_eq_bot] at h
  obtain ⟨h1, h2⟩ := h
  rw [h1, EReal.neg_bot] at h2
  exact absurd h2 (by decide)

theorem sixteenth : Ideal.ofBits FTy.f32 0x3D800000#32 = ((1 / 16 : ℝ) : EReal) := by
  simp [Ideal.ofBits, Ideal.ieee, -EReal.coe_mul]; norm_num

theorem sixteen : Ideal.ofBits FTy.f32 0x41800000#32 = ((16 : ℝ) : EReal) := by
  simp [Ideal.ofBits, Ideal.ieee, -EReal.coe_mul]; norm_num

theorem gate_ne_top (z : EReal) : gate z ≠ ⊤ := by
  obtain ⟨l, hl⟩ := tail_real z
  unfold gate
  rw [hl, sixteenth]
  have hm : min z 0 ≤ (0 : EReal) := min_le_right _ _
  generalize min z 0 = a at hm ⊢
  induction a with
  | bot =>
    rw [EReal.bot_sub, EReal.bot_mul_coe_of_pos (by norm_num)]
    exact bot_ne_top
  | top => exact absurd hm (by simp)
  | coe r =>
    rw [← EReal.coe_sub, ← EReal.coe_mul]
    exact EReal.coe_ne_top _

/-- The gate as a negated softplus over 16. -/
theorem gate_eq (z : EReal) : gate z
    = Ideal.div (-(max (-z) 0 + Ideal.log1p (Ideal.exp (-(max (-z - 0) (-(-z - 0))))))) (Ideal.ofBits FTy.f32 0x41800000#32) := by
  obtain ⟨l, hl⟩ := tail_real z
  have e : Ideal.log1p (Ideal.exp (-(max (-z - 0) (-(-z - 0))))) = (l : EReal) := by
    rw [← hl]
    unfold tail
    rw [sub_zero, neg_neg, max_comm, sub_eq_add_neg, zero_add]
  have hm : max (-z) 0 = -(min z 0) := by
    rcases le_total z 0 with h | h
    · rw [min_eq_left h, max_eq_left (by have := EReal.neg_le_neg_iff.2 h; rwa [neg_zero] at this)]
    · rw [min_eq_right h, max_eq_right (by have := EReal.neg_le_neg_iff.2 h; rwa [neg_zero] at this), neg_zero]
  rw [e, sixteen, Ideal.div_coe (by norm_num : (16 : ℝ) ≠ 0), hm, EReal.neg_add (Or.inr (EReal.coe_ne_top _)) (Or.inr (EReal.coe_ne_bot _)), neg_neg]
  unfold gate
  rw [hl, sixteenth]

/-- A column's partner in its rotation. -/
def partner (x : Fin 128) : Fin 128 := if x.val % 64 < 32 then ⟨(x.val + 128 - 96) % 128, by omega⟩ else ⟨(x.val + 128 - 32) % 128, by omega⟩

/-- The first half of each pair of half-heads, as words compute it. -/
theorem lane_word : ∀ x : Fin 128, IntOp.cmpi CmpIPredicate.slt
            (Scalar.select
              (IntOp.andi
                (IntOp.xori
                  (IntOp.cmpi CmpIPredicate.slt
                    (IntOp.remsi ArithUnit.vector (BitVec.ofNat 32 x.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 x.val)
                    (Scalar.select (Scalar.cmpi CmpIPredicate.eq 64#32 0#32) 1#32 64#32))
                  0#32))
              (IntOp.addi
                (IntOp.remsi ArithUnit.vector (BitVec.ofNat 32 x.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 x.val)
                (Scalar.select (Scalar.cmpi CmpIPredicate.eq 64#32 0#32) 1#32 64#32)))
            32#32 = BitVec.ofBool (decide (x.val % 64 < 32)) := by
  decide +kernel

/-- Choosing between two columns of a function is a read at the partner. -/
theorem partner_read (f : Fin 128 → EReal) (x : Fin 128) :
    Scalar.select (BitVec.ofBool (decide (x.val % 64 < 32))) (f ⟨(x.val + 128 - 96) % 128, by omega⟩) (f ⟨(x.val + 128 - 32) % 128, by omega⟩)
      = f (partner x) := by
  unfold partner
  by_cases h : x.val % 64 < 32
  · rw [if_pos h, decide_eq_true h]
    rfl
  · rw [if_neg h, decide_eq_false h]
    rfl

variable (x0 x1 : Vec Ideal S1024x128 .f32) (x2 : Vec Ideal S1024x256 .f32) (x3 : Vec Ideal S1024x128 .f32)
  (x4 x5 : Vec Ideal S128x128 .bf16) (x6 x7 : Vec Ideal S1x128 .f32) (x8 x9 : Vec Ideal S1x1024x128 .f32)
  (x10 : Vec Ideal S1x2x1x128x256 .f32)

theorem gate_false (t : Fin 1024) (x : Fin 128) : ((blocksOf x0 x1 x2 x3 x4 x5 x6 x7 x8 x9 x10).g false (ix2 t x) : EReal)
    = gate ((∑ l : Fin 128, x3 (ix2 t l) * x4 (ix2 l x)) + x6 (ix2 0 x)) := by
  show (k0_pay3 x3 x4 x6 (ix2 t x) : EReal) = _
  unfold gate tail
  pointwise [k0_pay3, k0_pay2]
  rfl

theorem gate_true (t : Fin 1024) (x : Fin 128) : ((blocksOf x0 x1 x2 x3 x4 x5 x6 x7 x8 x9 x10).g true (ix2 t x) : EReal)
    = gate ((∑ l : Fin 128, x3 (ix2 t l) * x5 (ix2 l x)) + x7 (ix2 0 x)) := by
  show (k0_pay7 (k0_pay5 x3 x5 x7) (k0_pay6 x3 x5 x7) (ix2 t x) : EReal) = _
  unfold gate tail
  pointwise [k0_pay7, k0_pay5, k0_pay6, k0_pay4, k0_pay2]
  rfl

theorem query (t : Fin 1024) (x : Fin 128) : ((blocksOf x0 x1 x2 x3 x4 x5 x6 x7 x8 x9 x10).q (ix2 t x) : EReal)
    = (x0 (ix2 t x) * Ideal.ofBits FTy.f32 0x3DB504F3#32) * x8 (ix3 0 t x)
      + (x0 (ix2 t (partner x)) * Ideal.ofBits FTy.f32 0x3DB504F3#32) * x9 (ix3 0 t x) := by
  show (k0_pay15 (k0_pay8 x8) (k0_pay9 x9) (k0_pay11 x0) (k0_pay12 x0) (k0_pay13 x0) k0_pay14 (ix2 t x) : EReal) = _
  pointwise [k0_pay15, k0_pay8, k0_pay9, k0_pay11, k0_pay12, k0_pay13, k0_pay14, k0_pay10]
  rw [lane_word, partner_read fun y => x0 (ix2 t y) * Ideal.ofBits FTy.f32 0x3DB504F3#32]

theorem key (t : Fin 1024) (x : Fin 128) : ((blocksOf x0 x1 x2 x3 x4 x5 x6 x7 x8 x9 x10).k (ix2 t x) : EReal)
    = x1 (ix2 t x) * x8 (ix3 0 t x) + x1 (ix2 t (partner x)) * x9 (ix3 0 t x) := by
  show (k0_pay16 (k0_pay8 x8) (k0_pay9 x9) k0_pay10 x1 (ix2 t x) : EReal) = _
  pointwise [k0_pay16, k0_pay8, k0_pay9, k0_pay10]
  rw [lane_word, partner_read fun y => x1 (ix2 t y)]

theorem start_false (x : Fin 128) (e : Fin 256) : ((blocksOf x0 x1 x2 x3 x4 x5 x6 x7 x8 x9 x10).s0 false (ix5 0 0 0 x e) : EReal)
    = x10 (ix5 0 0 0 x e) := by
  refine congrArg x10 ?_
  funext a
  fin_cases a <;> exact Fin.ext (by simp)

theorem start_true (x : Fin 128) (e : Fin 256) : ((blocksOf x0 x1 x2 x3 x4 x5 x6 x7 x8 x9 x10).s0 true (ix5 0 0 0 x e) : EReal)
    = x10 (ix5 0 1 0 x e) := by
  refine congrArg x10 ?_
  funext a
  fin_cases a <;> exact Fin.ext (by simp)

end Cert.Gla
-- ==== Proof.GlaHost.lean ====
/-
  Gated linear attention: what the idealized kernel's windows stage, index by index, in terms of the arguments.
-/
module

public import proofs.«01_k».proof.Proof.GlaScan
public import Idealize.ShloMosaic.Lib.StableHlo.ReadAt
public import Idealize.ShloMosaic.Lib.Routing.OpsOne

@[expose] public section

set_option maxRecDepth 16384

noncomputable section

namespace Cert.Gla

open Idealize.ShloMosaic Idealize.ShloMosaic.TcCoe Idealize.SL.Sem
open Cert.KernelIdeal Cert.KernelIdeal.Gen

/-- Column `l` of the projection of token `r`: the context's tokens first, then the samples'. -/
def proj (xp : S16x256x5664.Idx → EReal) (xs : S4x1024x5664.Idx → EReal) (r : Fin 8192) (l : Fin 5664) : EReal :=
  if h : r.val < 4096 then xp (ix3 ⟨r.val / 256, by omega⟩ ⟨r.val % 256, by omega⟩ l)
  else xs (ix3 ⟨(r.val - 4096) / 1024, by omega⟩ ⟨(r.val - 4096) % 1024, by omega⟩ l)

variable (m : (ℓ : Loc nD τ sig) → Buf (Elt Ideal) ℓ) (c : Dev nD)

/-- The samples' and the context's tokens, one below the other, read at a token. -/
theorem tokens_apply (xp : S16x256x5664.Idx → EReal) (xs : S4x1024x5664.Idx → EReal) (hp : S16x256x5664.ShapeCasts S4096x5664)
    (hs : S4x1024x5664.ShapeCasts S4096x5664) (h) (r : Fin 8192) (k : Fin 5664) :
    concatenate S8192x5664 0 [⟨S4096x5664, shapeCast S4096x5664 xp hp⟩, ⟨S4096x5664, shapeCast S4096x5664 xs hs⟩] h (ix2 r k)
      = proj xp xs r k := by
  have ep : ∀ (r : Fin 4096), shapeCast S4096x5664 xp hp (ix2 r k) = xp (ix3 ⟨r.val / 256, by omega⟩ ⟨r.val % 256, by omega⟩ k) := by
    intro r
    pointwise
  have es : ∀ (r : Fin 4096), shapeCast S4096x5664 xs hs (ix2 r k) = xs (ix3 ⟨r.val / 1024, by omega⟩ ⟨r.val % 1024, by omega⟩ k) := by
    intro r
    pointwise
  generalize shapeCast S4096x5664 xp hp = a at *
  generalize shapeCast S4096x5664 xs hs = b at *
  unfold proj
  pointwise
  split
  · exact ep _
  · exact es _

theorem entry_tokens (r : Fin 8192) (k : Fin 5664) : (V m c main_v2 : S8192x5664.Idx → EReal) (ix2 r k)
    = proj (m (c.tc.loc main_arg0)) (m (c.tc.loc main_arg1)) r k := by
  unfold V
  after_reads_simp
  exact tokens_apply _ _ _ _ _ r k

theorem entry_head (r : Fin 8192) (l : Fin 5760) (h : l.val < 3072) : (V m c main_v49 : S8192x5760.Idx → EReal) (ix2 r l)
    = proj (m (c.tc.loc main_arg0)) (m (c.tc.loc main_arg1)) r ⟨l.val, by omega⟩ := by
  unfold V proj
  after_reads_at
  rw [dif_pos h]
  after_reads_at
  split
  · after_reads_at
  · after_reads_at

theorem entry_lowrank (r : Fin 8192) (i : Fin 128) (h : i.val < 32) : (V m c main_v49 : S8192x5760.Idx → EReal) (ix2 r ⟨5632 + i.val, by omega⟩)
    = proj (m (c.tc.loc main_arg0)) (m (c.tc.loc main_arg1)) r ⟨3072 + i.val, by omega⟩ := by
  unfold V proj
  after_reads_at
  rw [dif_neg (by omega), dif_neg (by omega), dif_neg (by omega), dif_pos (by omega)]
  after_reads_at
  split
  · after_reads_at
    exact congrArg (m _) (congrArg (ix3 _ _) (Fin.ext (by simp only []; omega)))
  · after_reads_at
    exact congrArg (m _) (congrArg (ix3 _ _) (Fin.ext (by simp only []; omega)))

/-! ## The rotary tables -/

/-- The frequency of pair `i`. -/
def freq (i : ℕ) : EReal := Ideal.pow (Ideal.ofBits FTy.f32 0x461C4000#32)
  (Ideal.div (-(FloatOps.sitofp FTy.f32 (BitVec.ofNat 32 i) : Ideal .f32) : EReal) (Ideal.ofBits FTy.f32 0x42000000#32))

/-- The angle of position `p` and pair `i`. -/
def angle (p i : ℕ) : EReal := (FloatOps.sitofp FTy.f32 (BitVec.ofNat 32 p) : Ideal .f32) * freq i

/-- The angle of a latent token at a column of a head: the first half of the columns turns by the token's row of the grid,
    the second by its column. -/
def angleAt (t : Fin 1024) (x : Fin 128) : EReal := angle (if x.val < 64 then t.val / 64 else t.val % 64) (x.val % 32)

/-- A word's sign. -/
def signWord (w : BitVec 32) : BitVec 32 := if w = 0 then 0 else if w.msb = true then -1 else 1

/-- The floor of a division by 64, as words compute it. -/
theorem row_word : ∀ t : Fin 1024, Scalar.select
      (IntOp.andi
        (IntOp.cmpi CmpIPredicate.ne (signWord (BitVec.ofNat 32 t.val)) (signWord 64#32))
        (IntOp.cmpi CmpIPredicate.ne (IntOp.remsi ArithUnit.host (BitVec.ofNat 32 t.val) (64#32)) 0#32))
      (IntOp.subi (IntOp.divsi ArithUnit.host (BitVec.ofNat 32 t.val) (64#32)) 1#32)
      (IntOp.divsi ArithUnit.host (BitVec.ofNat 32 t.val) (64#32)) = BitVec.ofNat 32 (t.val / 64) := by
  decide +kernel

/-- The divisor of a remainder by 64, as words compute it. -/
def divWord : BitVec 32 := Scalar.select (IntOp.cmpi CmpIPredicate.eq (64#32) 0#32) (1#32) (64#32)

/-- The remainder of a division by 64, as words compute it. -/
theorem col_word : ∀ t : Fin 1024, Scalar.select
      (IntOp.andi
        (IntOp.cmpi CmpIPredicate.ne
          (IntOp.cmpi CmpIPredicate.slt (IntOp.remsi ArithUnit.host (BitVec.ofNat 32 t.val) divWord) 0#32)
          (IntOp.cmpi CmpIPredicate.slt divWord 0#32))
        (IntOp.cmpi CmpIPredicate.ne (IntOp.remsi ArithUnit.host (BitVec.ofNat 32 t.val) divWord) 0#32))
      (IntOp.addi (IntOp.remsi ArithUnit.host (BitVec.ofNat 32 t.val) divWord) divWord)
      (IntOp.remsi ArithUnit.host (BitVec.ofNat 32 t.val) divWord) = BitVec.ofNat 32 (t.val % 64) := by
  decide +kernel

set_option maxHeartbeats 1000000 in
theorem entry_cos (t : Fin 1024) (x : Fin 128) : (V m c main_v39 : S2x1024x128.Idx → EReal) (ix3 1 t x)
    = Ideal.cos (angleAt t x) := by
  unfold V angleAt
  after_reads_at
  by_cases h : x.val < 64
  · rw [if_pos h]
    refine (dif_pos h).trans ?_
    after_reads_at
    by_cases h' : x.val < 32
    · refine (dif_pos h').trans ?_
      refine congrArg Ideal.cos (congrArg₂ (fun a b : EReal => a * b) (congrArg (FloatOps.sitofp (F := Ideal) FTy.f32) (row_word t)) ?_)
      exact congrArg freq (by show x.val = x.val % 32; omega)
    · refine (dif_neg h').trans ?_
      refine congrArg Ideal.cos (congrArg₂ (fun a b : EReal => a * b) (congrArg (FloatOps.sitofp (F := Ideal) FTy.f32) (row_word t)) ?_)
      exact congrArg freq (by show x.val - 32 = x.val % 32; omega)
  · rw [if_neg h]
    refine (dif_neg h).trans ?_
    after_reads_at
    by_cases h' : x.val - 64 < 32
    · refine (dif_pos h').trans ?_
      refine congrArg Ideal.cos (congrArg₂ (fun a b : EReal => a * b) (congrArg (FloatOps.sitofp (F := Ideal) FTy.f32) (col_word t)) ?_)
      exact congrArg freq (by show x.val - 64 = x.val % 32; omega)
    · refine (dif_neg h').trans ?_
      refine congrArg Ideal.cos (congrArg₂ (fun a b : EReal => a * b) (congrArg (FloatOps.sitofp (F := Ideal) FTy.f32) (col_word t)) ?_)
      exact congrArg freq (by show x.val - 64 - 32 = x.val % 32; omega)

set_option maxHeartbeats 1000000 in
theorem entry_sin (t : Fin 1024) (x : Fin 128) : (V m c main_v43 : S2x1024x128.Idx → EReal) (ix3 1 t x)
    = if x.val % 64 < 32 then -(Ideal.sin (angleAt t x)) else Ideal.sin (angleAt t x) := by
  unfold V angleAt
  after_reads_at
  by_cases h : x.val < 64
  · rw [if_pos h]
    refine (dif_pos h).trans ?_
    after_reads_at
    by_cases h' : x.val < 32
    · rw [if_pos (show x.val % 64 < 32 by omega)]
      refine (dif_pos h').trans ?_
      refine congrArg (fun a : EReal => -(Ideal.sin a)) (congrArg₂ (fun a b : EReal => a * b) (congrArg (FloatOps.sitofp (F := Ideal) FTy.f32) (row_word t)) ?_)
      exact congrArg freq (by show x.val = x.val % 32; omega)
    · rw [if_neg (show ¬x.val % 64 < 32 by omega)]
      refine (dif_neg h').trans ?_
      refine congrArg Ideal.sin (congrArg₂ (fun a b : EReal => a * b) (congrArg (FloatOps.sitofp (F := Ideal) FTy.f32) (row_word t)) ?_)
      exact congrArg freq (by show x.val - 32 = x.val % 32; omega)
  · rw [if_neg h]
    refine (dif_neg h).trans ?_
    after_reads_at
    by_cases h' : x.val - 64 < 32
    · rw [if_pos (show x.val % 64 < 32 by omega)]
      refine (dif_pos h').trans ?_
      refine congrArg (fun a : EReal => -(Ideal.sin a)) (congrArg₂ (fun a b : EReal => a * b) (congrArg (FloatOps.sitofp (F := Ideal) FTy.f32) (col_word t)) ?_)
      exact congrArg freq (by show x.val - 64 = x.val % 32; omega)
    · rw [if_neg (show ¬x.val % 64 < 32 by omega)]
      refine (dif_neg h').trans ?_
      refine congrArg Ideal.sin (congrArg₂ (fun a b : EReal => a * b) (congrArg (FloatOps.sitofp (F := Ideal) FTy.f32) (col_word t)) ?_)
      exact congrArg freq (by show x.val - 64 - 32 = x.val % 32; omega)

theorem entry_cos_zero (t : Fin 1024) (x : Fin 128) : (V m c main_v39 : S2x1024x128.Idx → EReal) (ix3 0 t x) = (1 : EReal) := by
  unfold V
  after_reads_at
  try rfl

theorem entry_sin_zero (t : Fin 1024) (x : Fin 128) : (V m c main_v43 : S2x1024x128.Idx → EReal) (ix3 0 t x) = (0 : EReal) := by
  unfold V
  after_reads_at
  try rfl

/-! ## The low-rank weights, padded with zeros -/

open Idealize.ShloMosaic.Routing in
/-- Rows written into a matrix of 128 rows from row `k` on. -/
theorem scatter_rows (x0 : S128x512.Idx → EReal) (idx : IVec S1 32) (upd : S16x512.Idx → EReal) (k : ℕ) (hk : k + 16 ≤ 128)
    (hidx : (idx (ix1 0)).toInt = (k : Int)) (i : Fin 128) (x : Fin 512) :
    Host.scatter scatter_S128x512_S1_S16x512_01_n_0_0 (fun _ b => b) x0 idx upd (ix2 i x)
      = if h : k ≤ i.val ∧ i.val < k + 16 then upd (ix2 ⟨i.val - k, by omega⟩ x) else x0 (ix2 i x) := by
  have lands : ∀ (a : Fin 16) (b : Fin 512), scatter_S128x512_S1_S16x512_01_n_0_0.resultIdx? (ix2 a b) idx = some (ix2 i x)
      ↔ k + a.val = i.val ∧ b = x := by
    intro a b
    have w0 : scatter_S128x512_S1_S16x512_01_n_0_0.window (ix2 a b) 0 = a.val := rfl
    have w1 : scatter_S128x512_S1_S16x512_01_n_0_0.window (ix2 a b) 1 = b.val := rfl
    have s1 : scatter_S128x512_S1_S16x512_01_n_0_0.start (ix2 a b) idx 1 = 0 := rfl
    have s0 : scatter_S128x512_S1_S16x512_01_n_0_0.start (ix2 a b) idx 0 = (k : Int) := by
      refine Eq.trans ?_ hidx
      show (idx _).toInt = _
      refine congrArg (fun j => (idx j).toInt) ?_
      funext b'
      match b' with
      | ⟨0, _⟩ => exact Subsingleton.elim (α := Fin 1) _ _
    refine (resultIdx?_ix2 _ (ix2 a b) idx i x).trans ?_
    rw [s0, s1, w0, w1, Fin.ext_iff]
    omega
  by_cases h : k ≤ i.val ∧ i.val < k + 16
  · rw [dif_pos h]
    refine scatter_set_hit _ x0 idx upd _ _ (fun j hj => ?_) (ix2 ⟨i.val - k, by omega⟩ x) ((lands _ _).2 ⟨by show k + (i.val - k) = _; omega, rfl⟩)
    have hj' := hj
    rw [ValueIdx.eq_ix2 j] at hj'
    obtain ⟨h1, h2⟩ := (lands (j 0) (j 1)).1 hj'
    refine congrArg upd ((ValueIdx.eq_ix2 j).trans ?_)
    have e0 : j 0 = (⟨i.val - k, by omega⟩ : Fin 16) := Fin.ext (by show (j 0).val = i.val - k; omega)
    rw [e0, h2]
    rfl
  · rw [dif_neg h]
    refine scatter_set_miss _ x0 idx upd _ fun j hj => h ?_
    rw [ValueIdx.eq_ix2 j] at hj
    have h1 := ((lands (j 0) (j 1)).1 hj).1
    have h2 : (j 0).val < 16 := (j 0).isLt
    omega

theorem entry_waf (i : Fin 128) (x : Fin 512) : (V m c main_v53 : S128x512.Idx → EReal) (ix2 i x)
    = if h : i.val < 16 then (show EReal from (m (c.tc.loc main_arg2) : S16x512.Idx → EReal) (ix2 ⟨i.val, h⟩ x)) else 0 := by
  unfold V
  after_reads_at
  refine (scatter_rows _ _ _ 0 (by omega) rfl i x).trans ?_
  by_cases h : i.val < 16
  · rw [dif_pos h, dif_pos ⟨by omega, by omega⟩]
    rfl
  · rw [dif_neg h, dif_neg (by omega)]
    pointwise

theorem entry_wab (i : Fin 128) (x : Fin 512) : (V m c main_v57 : S128x512.Idx → EReal) (ix2 i x)
    = if h : 16 ≤ i.val ∧ i.val < 32 then (show EReal from (m (c.tc.loc main_arg4) : S16x512.Idx → EReal) (ix2 ⟨i.val - 16, by omega⟩ x)) else 0 := by
  unfold V
  after_reads_at
  refine (scatter_rows _ _ _ 16 (by omega) rfl i x).trans ?_
  by_cases h : 16 ≤ i.val ∧ i.val < 32
  · rw [dif_pos h, dif_pos ⟨by omega, by omega⟩]
  · rw [dif_neg h, dif_neg (by omega)]
    pointwise

theorem entry_baf (x : Fin 512) : (V m c main_v58 : S1x512.Idx → EReal) (ix2 0 x)
    = (m (c.tc.loc main_arg3) : S512.Idx → EReal) (ix1 x) := by
  unfold V
  after_reads_at

theorem entry_bab (x : Fin 512) : (V m c main_v59 : S1x512.Idx → EReal) (ix2 0 x)
    = (m (c.tc.loc main_arg5) : S512.Idx → EReal) (ix1 x) := by
  unfold V
  after_reads_at

end Cert.Gla
-- ==== Proof.GlaRefTok.lean ====
/-
  The reference's queries, keys, values and gates at a token and a column, and as its scans read them.
-/
module

public import proofs.«01_k».proof.Proof.GlaToken
public import proofs.«01_k».proof.Proof.GlaHost
public import proofs.«01_k».proof.Proof.Gen.ReferenceIdeal.Read

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Read

/-- The reference's gate of a logit. -/
theorem gate_host (z : EReal) : Ideal.div (-(if -z ≠ -z then -z
      else max (-z) 0 + Ideal.log1p (Ideal.exp (-(FloatOps.absf (F := Ideal) (φ := .f32) (-z) : EReal))))) (Ideal.ofBits FTy.f32 0x41800000#32) = gate z := by
  rw [if_neg fun h => h rfl]
  have e := gate_eq z
  rw [sub_zero] at e
  exact e.symm

/-- A low-rank projection's logit: row `f` times a column of the weights, plus the bias. -/
def logit (f : Fin 16 → EReal) (w : S16x512.Idx → EReal) (b : S512.Idx → EReal) (h : Fin 4) (x : Fin 128) : EReal :=
  (∑ i : Fin 16, f i * w (ix2 i ⟨h.val * 128 + x.val, by omega⟩)) + b (ix1 ⟨h.val * 128 + x.val, by omega⟩)

/-- The rotation's factor of a column itself. -/
def cosT (t : Fin 1024) (x : Fin 128) : EReal := Ideal.cos (angleAt t x)

/-- The rotation's factor of a column's partner. -/
def sinT (t : Fin 1024) (x : Fin 128) : EReal := if x.val % 64 < 32 then -(Ideal.sin (angleAt t x)) else Ideal.sin (angleAt t x)

/-- A rotation written by quarters of a row of 128 columns. -/
theorem rotation (w : Fin 128 → EReal) (t : Fin 1024) (x : Fin 128) :
    (if _ : x.val < 64 then
      if _ : x.val < 32 then
        w x * Ideal.cos (angle (t.val / 64) x.val) - w ⟨32 + x.val, by omega⟩ * Ideal.sin (angle (t.val / 64) x.val)
      else
        w ⟨x.val - 32, by omega⟩ * Ideal.sin (angle (t.val / 64) (x.val - 32))
          + w ⟨32 + (x.val - 32), by omega⟩ * Ideal.cos (angle (t.val / 64) (x.val - 32))
    else
      if _ : x.val - 64 < 32 then
        w ⟨64 + (x.val - 64), by omega⟩ * Ideal.cos (angle (t.val % 64) (x.val - 64))
          - w ⟨64 + (32 + (x.val - 64)), by omega⟩ * Ideal.sin (angle (t.val % 64) (x.val - 64))
      else
        w ⟨64 + (x.val - 64 - 32), by omega⟩ * Ideal.sin (angle (t.val % 64) (x.val - 64 - 32))
          + w ⟨64 + (32 + (x.val - 64 - 32)), by omega⟩ * Ideal.cos (angle (t.val % 64) (x.val - 64 - 32)))
      = w x * cosT t x + w (partner x) * sinT t x := by
  have hx := x.isLt
  unfold cosT sinT angleAt partner
  by_cases h1 : x.val < 64 <;> by_cases h2 : x.val % 64 < 32
  · have h3 : x.val < 32 := by omega
    have e : x.val % 32 = x.val := by omega
    have ep : (⟨(x.val + 128 - 96) % 128, by omega⟩ : Fin 128) = ⟨32 + x.val, by omega⟩ := Fin.ext (by simp only []; omega)
    rw [dif_pos h1, dif_pos h3, if_pos h1, if_pos h2, if_pos h2, e, ep, mul_neg, ← sub_eq_add_neg]
  · have h3 : ¬ x.val < 32 := by omega
    have e : x.val % 32 = x.val - 32 := by omega
    have ep : (⟨(x.val + 128 - 32) % 128, by omega⟩ : Fin 128) = ⟨x.val - 32, by omega⟩ := Fin.ext (by simp only []; omega)
    have ex : (⟨32 + (x.val - 32), by omega⟩ : Fin 128) = x := Fin.ext (by simp only []; omega)
    rw [dif_pos h1, dif_neg h3, if_pos h1, if_neg h2, if_neg h2, e, ep, ex, add_comm]
  · have h3 : x.val - 64 < 32 := by omega
    have e : x.val % 32 = x.val - 64 := by omega
    have ep : (⟨(x.val + 128 - 96) % 128, by omega⟩ : Fin 128) = ⟨64 + (32 + (x.val - 64)), by omega⟩ :=
      Fin.ext (by simp only []; omega)
    have ex : (⟨64 + (x.val - 64), by omega⟩ : Fin 128) = x := Fin.ext (by simp only []; omega)
    rw [dif_neg h1, dif_pos h3, if_neg h1, if_pos h2, if_pos h2, e, ep, ex, mul_neg, ← sub_eq_add_neg]
  · have h3 : ¬ x.val - 64 < 32 := by omega
    have e : x.val % 32 = x.val - 64 - 32 := by omega
    have ep : (⟨(x.val + 128 - 32) % 128, by omega⟩ : Fin 128) = ⟨64 + (x.val - 64 - 32), by omega⟩ :=
      Fin.ext (by simp only []; omega)
    have ex : (⟨64 + (32 + (x.val - 64 - 32)), by omega⟩ : Fin 128) = x := Fin.ext (by simp only []; omega)
    rw [dif_neg h1, dif_neg h3, if_neg h1, if_neg h2, if_neg h2, e, ep, ex, add_comm]

variable (x0 : S16x256x5664.Idx → EReal) (x1 : S4x1024x5664.Idx → EReal) (x2 : S16x512.Idx → EReal) (x3 : S512.Idx → EReal)

/-! ## The context -/

theorem prompt_q (s : Fin 16) (h : Fin 4) (t : Fin 256) (x : Fin 128) : (val_main_v9 (F := Ideal) x0 (ix4 s h t x) : EReal)
    = x0 (ix3 s t ⟨h.val * 128 + x.val, by omega⟩) * Ideal.ofBits FTy.f32 0x3DB504F3#32 := by
  pointwise [val_main_v9, val_main_v8, val_main_cst_0, val_main_v7, val_main_v6, val_main_v1]

theorem prompt_k (s : Fin 16) (h : Fin 4) (t : Fin 256) (x : Fin 128) : (val_main_v11 (F := Ideal) x0 (ix4 s h t x) : EReal)
    = x0 (ix3 s t ⟨512 + (h.val * 128 + x.val), by omega⟩) := by
  pointwise [val_main_v11, val_main_v10, val_main_v2]

theorem prompt_v (s : Fin 16) (h : Fin 4) (t : Fin 256) (x : Fin 256) : (val_main_v13 (F := Ideal) x0 (ix4 s h t x) : EReal)
    = x0 (ix3 s t ⟨1024 + (h.val * 256 + x.val), by omega⟩) := by
  pointwise [val_main_v13, val_main_v12, val_main_v3]

theorem prompt_gf (s : Fin 16) (h : Fin 4) (t : Fin 256) (x : Fin 128) : (val_main_v22 (F := Ideal) x0 x2 x3 (ix4 s h t x) : EReal)
    = gate (logit (fun i => x0 (ix3 s t ⟨3072 + i.val, by omega⟩)) x2 x3 h x) := by
  refine Eq.trans ?_ (gate_host _)
  unfold logit
  pointwise [val_main_v22, val_main_v21, val_main_v20, val_main_v19, val_main_v18, val_main_v17, val_main_v16, val_main_v15, val_main_v14, val_main_v4, val_main_cst_1, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]

theorem prompt_gb (s : Fin 16) (h : Fin 4) (t : Fin 256) (x : Fin 128) : (val_main_v31 (F := Ideal) x0 x2 x3 (ix4 s h t x) : EReal)
    = gate (logit (fun i => x0 (ix3 s t ⟨3088 + i.val, by omega⟩)) x2 x3 h x) := by
  refine Eq.trans ?_ (gate_host _)
  unfold logit
  pointwise [val_main_v31, val_main_v30, val_main_v29, val_main_v28, val_main_v27, val_main_v26, val_main_v25, val_main_v24, val_main_v23, val_main_v5, val_main_cst_2, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]

/-! ## The samples -/

theorem sample_q (s : Fin 4) (h : Fin 4) (t : Fin 1024) (x : Fin 128) : (val_main_v142 (F := Ideal) x1 (ix4 s h t x) : EReal)
    = x1 (ix3 s t ⟨h.val * 128 + x.val, by omega⟩) * Ideal.ofBits FTy.f32 0x3DB504F3#32 := by
  pointwise [val_main_v142, val_main_v141, val_main_cst_7, val_main_v140, val_main_v139, val_main_v134]

theorem sample_k (s : Fin 4) (h : Fin 4) (t : Fin 1024) (x : Fin 128) : (val_main_v144 (F := Ideal) x1 (ix4 s h t x) : EReal)
    = x1 (ix3 s t ⟨512 + (h.val * 128 + x.val), by omega⟩) := by
  pointwise [val_main_v144, val_main_v143, val_main_v135]

theorem sample_v (s : Fin 4) (h : Fin 4) (t : Fin 1024) (x : Fin 256) : (val_main_v146 (F := Ideal) x1 (ix4 s h t x) : EReal)
    = x1 (ix3 s t ⟨1024 + (h.val * 256 + x.val), by omega⟩) := by
  pointwise [val_main_v146, val_main_v145, val_main_v136]

theorem sample_gf (s : Fin 4) (h : Fin 4) (t : Fin 1024) (x : Fin 128) : (val_main_v285 (F := Ideal) x1 x2 x3 (ix4 s h t x) : EReal)
    = gate (logit (fun i => x1 (ix3 s t ⟨3072 + i.val, by omega⟩)) x2 x3 h x) := by
  refine Eq.trans ?_ (gate_host _)
  unfold logit
  pointwise [val_main_v285, val_main_v284, val_main_v283, val_main_v282, val_main_v281, val_main_v280, val_main_v279, val_main_v278, val_main_v277, val_main_v137, val_main_cst_16, val_main_call5_v1, val_main_call5_call0_v11, val_main_call5_call0_v10, val_main_call5_call0_v9, val_main_call5_call0_v8, val_main_call5_call0_v7, val_main_call5_call0_v6, val_main_call5_call0_v5, val_main_call5_call0_v4, val_main_call5_call0_v3, val_main_call5_call0_v2, val_main_call5_call0_v1, val_main_call5_call0_v0, val_main_call5_call0_cst, val_main_call5_v0]

theorem sample_gb (s : Fin 4) (h : Fin 4) (t : Fin 1024) (x : Fin 128) : (val_main_v294 (F := Ideal) x1 x2 x3 (ix4 s h t x) : EReal)
    = gate (logit (fun i => x1 (ix3 s t ⟨3088 + i.val, by omega⟩)) x2 x3 h x) := by
  refine Eq.trans ?_ (gate_host _)
  unfold logit
  pointwise [val_main_v294, val_main_v293, val_main_v292, val_main_v291, val_main_v290, val_main_v289, val_main_v288, val_main_v287, val_main_v286, val_main_v138, val_main_cst_17, val_main_call6_v1, val_main_call6_call0_v11, val_main_call6_call0_v10, val_main_call6_call0_v9, val_main_call6_call0_v8, val_main_call6_call0_v7, val_main_call6_call0_v6, val_main_call6_call0_v5, val_main_call6_call0_v4, val_main_call6_call0_v3, val_main_call6_call0_v2, val_main_call6_call0_v1, val_main_call6_call0_v0, val_main_call6_call0_cst, val_main_call6_v0]

/-- A rotated query. -/
theorem sample_rq (s : Fin 4) (h : Fin 4) (t : Fin 1024) (x : Fin 128) : (val_main_v211 (F := Ideal) x1 (ix4 s h t x) : EReal)
    = val_main_v142 (F := Ideal) x1 (ix4 s h t x) * cosT t x + val_main_v142 (F := Ideal) x1 (ix4 s h t (partner x)) * sinT t x := by
  pointwise [val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_cst_8, val_main_cst_9, val_main_cst_10, val_main_cst_11, val_main_v123, val_main_v124, val_main_v125, val_main_v126, val_main_v127, val_main_v128, val_main_v129]
  exact rotation (fun x => val_main_v142 (F := Ideal) x1 (ix4 s h t x)) t x

/-- A rotated key. -/
theorem sample_rk (s : Fin 4) (h : Fin 4) (t : Fin 1024) (x : Fin 128) : (val_main_v276 (F := Ideal) x1 (ix4 s h t x) : EReal)
    = val_main_v144 (F := Ideal) x1 (ix4 s h t x) * cosT t x + val_main_v144 (F := Ideal) x1 (ix4 s h t (partner x)) * sinT t x := by
  pointwise [val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_cst_12, val_main_cst_13, val_main_cst_14, val_main_cst_15, val_main_v123, val_main_v124, val_main_v125, val_main_v126, val_main_v127, val_main_v128, val_main_v129]
  exact rotation (fun x => val_main_v144 (F := Ideal) x1 (ix4 s h t x)) t x

/-! ## The scans' arrays -/

/-- The sequence of a scan of the context. -/
def seqP (b : Fin 32) : Fin 16 := ⟨b.val % 16, by omega⟩

/-- The token of a position of a scan of the context: the second sixteen scans run backwards. -/
def tokP (b : Fin 32) (n : Fin 4) (c : Fin 64) : Fin 256 :=
  if b.val < 16 then ⟨n.val * 64 + c.val, by omega⟩ else ⟨255 - (n.val * 64 + c.val), by omega⟩

/-- The sequence of a scan of the samples. -/
def seqS (b : Fin 8) : Fin 4 := ⟨b.val % 4, by omega⟩

/-- The token of a position of a scan of the samples: the second four scans run backwards. -/
def tokS (b : Fin 8) (n : Fin 16) (c : Fin 64) : Fin 1024 :=
  if b.val < 4 then ⟨n.val * 64 + c.val, by omega⟩ else ⟨1023 - (n.val * 64 + c.val), by omega⟩

theorem joinedP (y z : S16x4x256x128.Idx → EReal) (b : Fin 32) (h : Fin 4) (n : Fin 4) (c : Fin 64) (x : Fin 128) :
    (shapeCast S32x4x4x64x128 (concatenate S32x4x256x128 0 [⟨S16x4x256x128, y⟩, ⟨S16x4x256x128, Host.reverse [2] z⟩]
      concatenates_S16x4x256x128_S16x4x256x128_S32x4x256x128_d0) shapeCasts_S32x4x256x128_S32x4x4x64x128 (ix5 b h n c x) : EReal)
      = if b.val < 16 then y (ix4 (seqP b) h (tokP b n c) x) else z (ix4 (seqP b) h (tokP b n c) x) := by
  by_cases hb : b.val < 16
  · have e : seqP b = ⟨b.val, hb⟩ := Fin.ext (by simp only [seqP]; omega)
    rw [if_pos hb, e, tokP, if_pos hb]
    pointwise []
    rw [dif_pos hb]
  · have e : seqP b = ⟨b.val - 16, by omega⟩ := Fin.ext (by simp only [seqP]; omega)
    rw [if_neg hb, e, tokP, if_neg hb]
    pointwise []
    rw [dif_neg hb]
    refine congrArg z ?_
    funext a
    match a with
    | ⟨0, _⟩ => rfl
    | ⟨1, _⟩ => rfl
    | ⟨2, _⟩ =>
      refine Fin.ext ?_
      simp
    | ⟨3, _⟩ => rfl

theorem joinedPV (y z : S16x4x256x256.Idx → EReal) (b : Fin 32) (h : Fin 4) (n : Fin 4) (c : Fin 64) (x : Fin 256) :
    (shapeCast S32x4x4x64x256 (concatenate S32x4x256x256 0 [⟨S16x4x256x256, y⟩, ⟨S16x4x256x256, Host.reverse [2] z⟩]
      concatenates_S16x4x256x256_S16x4x256x256_S32x4x256x256_d0) shapeCasts_S32x4x256x256_S32x4x4x64x256 (ix5 b h n c x) : EReal)
      = if b.val < 16 then y (ix4 (seqP b) h (tokP b n c) x) else z (ix4 (seqP b) h (tokP b n c) x) := by
  by_cases hb : b.val < 16
  · have e : seqP b = ⟨b.val, hb⟩ := Fin.ext (by simp only [seqP]; omega)
    rw [if_pos hb, e, tokP, if_pos hb]
    pointwise []
    rw [dif_pos hb]
  · have e : seqP b = ⟨b.val - 16, by omega⟩ := Fin.ext (by simp only [seqP]; omega)
    rw [if_neg hb, e, tokP, if_neg hb]
    pointwise []
    rw [dif_neg hb]
    refine congrArg z ?_
    funext a
    match a with
    | ⟨0, _⟩ => rfl
    | ⟨1, _⟩ => rfl
    | ⟨2, _⟩ =>
      refine Fin.ext ?_
      simp
    | ⟨3, _⟩ => rfl

theorem joinedS (y z : S4x4x1024x128.Idx → EReal) (b : Fin 8) (h : Fin 4) (n : Fin 16) (c : Fin 64) (x : Fin 128) :
    (shapeCast S8x4x16x64x128 (concatenate S8x4x1024x128 0 [⟨S4x4x1024x128, y⟩, ⟨S4x4x1024x128, Host.reverse [2] z⟩]
      concatenates_S4x4x1024x128_S4x4x1024x128_S8x4x1024x128_d0) shapeCasts_S8x4x1024x128_S8x4x16x64x128 (ix5 b h n c x) : EReal)
      = if b.val < 4 then y (ix4 (seqS b) h (tokS b n c) x) else z (ix4 (seqS b) h (tokS b n c) x) := by
  by_cases hb : b.val < 4
  · have e : seqS b = ⟨b.val, hb⟩ := Fin.ext (by simp only [seqS]; omega)
    rw [if_pos hb, e, tokS, if_pos hb]
    pointwise []
    rw [dif_pos hb]
  · have e : seqS b = ⟨b.val - 4, by omega⟩ := Fin.ext (by simp only [seqS]; omega)
    rw [if_neg hb, e, tokS, if_neg hb]
    pointwise []
    rw [dif_neg hb]
    refine congrArg z ?_
    funext a
    match a with
    | ⟨0, _⟩ => rfl
    | ⟨1, _⟩ => rfl
    | ⟨2, _⟩ =>
      refine Fin.ext ?_
      simp
    | ⟨3, _⟩ => rfl

theorem joinedSV (y z : S4x4x1024x256.Idx → EReal) (b : Fin 8) (h : Fin 4) (n : Fin 16) (c : Fin 64) (x : Fin 256) :
    (shapeCast S8x4x16x64x256 (concatenate S8x4x1024x256 0 [⟨S4x4x1024x256, y⟩, ⟨S4x4x1024x256, Host.reverse [2] z⟩]
      concatenates_S4x4x1024x256_S4x4x1024x256_S8x4x1024x256_d0) shapeCasts_S8x4x1024x256_S8x4x16x64x256 (ix5 b h n c x) : EReal)
      = if b.val < 4 then y (ix4 (seqS b) h (tokS b n c) x) else z (ix4 (seqS b) h (tokS b n c) x) := by
  by_cases hb : b.val < 4
  · have e : seqS b = ⟨b.val, hb⟩ := Fin.ext (by simp only [seqS]; omega)
    rw [if_pos hb, e, tokS, if_pos hb]
    pointwise []
    rw [dif_pos hb]
  · have e : seqS b = ⟨b.val - 4, by omega⟩ := Fin.ext (by simp only [seqS]; omega)
    rw [if_neg hb, e, tokS, if_neg hb]
    pointwise []
    rw [dif_neg hb]
    refine congrArg z ?_
    funext a
    match a with
    | ⟨0, _⟩ => rfl
    | ⟨1, _⟩ => rfl
    | ⟨2, _⟩ =>
      refine Fin.ext ?_
      simp
    | ⟨3, _⟩ => rfl

variable (x4 : S16x512.Idx → EReal) (x5 : S512.Idx → EReal) (x6 : S4x2x4x128x256.Idx → EReal)

theorem scan_qP (b : Fin 32) (h : Fin 4) (n : Fin 4) (c : Fin 64) (x : Fin 128) : (val_main_v41 (F := Ideal) x0 (ix5 b h n c x) : EReal)
    = x0 (ix3 (seqP b) (tokP b n c) ⟨h.val * 128 + x.val, by omega⟩) * Ideal.ofBits FTy.f32 0x3DB504F3#32 := by
  refine (joinedP _ _ b h n c x).trans ?_
  rw [ite_self, prompt_q]

theorem scan_kP (b : Fin 32) (h : Fin 4) (n : Fin 4) (c : Fin 64) (x : Fin 128) : (val_main_v42 (F := Ideal) x0 (ix5 b h n c x) : EReal)
    = x0 (ix3 (seqP b) (tokP b n c) ⟨512 + (h.val * 128 + x.val), by omega⟩) := by
  refine (joinedP _ _ b h n c x).trans ?_
  rw [ite_self, prompt_k]

theorem scan_vP (b : Fin 32) (h : Fin 4) (n : Fin 4) (c : Fin 64) (x : Fin 256) : (val_main_v43 (F := Ideal) x0 (ix5 b h n c x) : EReal)
    = x0 (ix3 (seqP b) (tokP b n c) ⟨1024 + (h.val * 256 + x.val), by omega⟩) := by
  refine (joinedPV _ _ b h n c x).trans ?_
  rw [ite_self, prompt_v]

theorem scan_gP (b : Fin 32) (h : Fin 4) (n : Fin 4) (c : Fin 64) (x : Fin 128) :
    (val_main_v44 (F := Ideal) x0 x2 x3 x4 x5 (ix5 b h n c x) : EReal)
    = if b.val < 16 then gate (logit (fun i => x0 (ix3 (seqP b) (tokP b n c) ⟨3072 + i.val, by omega⟩)) x2 x3 h x)
      else gate (logit (fun i => x0 (ix3 (seqP b) (tokP b n c) ⟨3088 + i.val, by omega⟩)) x4 x5 h x) := by
  refine (joinedP _ _ b h n c x).trans ?_
  rw [prompt_gf, prompt_gb]

theorem scan_qS (b : Fin 8) (h : Fin 4) (n : Fin 16) (c : Fin 64) (x : Fin 128) : (val_main_v304 (F := Ideal) x1 (ix5 b h n c x) : EReal)
    = x1 (ix3 (seqS b) (tokS b n c) ⟨h.val * 128 + x.val, by omega⟩) * Ideal.ofBits FTy.f32 0x3DB504F3#32 * cosT (tokS b n c) x
      + x1 (ix3 (seqS b) (tokS b n c) ⟨h.val * 128 + (partner x).val, by omega⟩) * Ideal.ofBits FTy.f32 0x3DB504F3#32
        * sinT (tokS b n c) x := by
  refine (joinedS _ _ b h n c x).trans ?_
  rw [ite_self, sample_rq, sample_q, sample_q]

theorem scan_kS (b : Fin 8) (h : Fin 4) (n : Fin 16) (c : Fin 64) (x : Fin 128) : (val_main_v305 (F := Ideal) x1 (ix5 b h n c x) : EReal)
    = x1 (ix3 (seqS b) (tokS b n c) ⟨512 + (h.val * 128 + x.val), by omega⟩) * cosT (tokS b n c) x
      + x1 (ix3 (seqS b) (tokS b n c) ⟨512 + (h.val * 128 + (partner x).val), by omega⟩) * sinT (tokS b n c) x := by
  refine (joinedS _ _ b h n c x).trans ?_
  rw [ite_self, sample_rk, sample_k, sample_k]

theorem scan_vS (b : Fin 8) (h : Fin 4) (n : Fin 16) (c : Fin 64) (x : Fin 256) : (val_main_v306 (F := Ideal) x1 (ix5 b h n c x) : EReal)
    = x1 (ix3 (seqS b) (tokS b n c) ⟨1024 + (h.val * 256 + x.val), by omega⟩) := by
  refine (joinedSV _ _ b h n c x).trans ?_
  rw [ite_self, sample_v]

theorem scan_gS (b : Fin 8) (h : Fin 4) (n : Fin 16) (c : Fin 64) (x : Fin 128) :
    (val_main_v307 (F := Ideal) x1 x2 x3 x4 x5 (ix5 b h n c x) : EReal)
    = if b.val < 4 then gate (logit (fun i => x1 (ix3 (seqS b) (tokS b n c) ⟨3072 + i.val, by omega⟩)) x2 x3 h x)
      else gate (logit (fun i => x1 (ix3 (seqS b) (tokS b n c) ⟨3088 + i.val, by omega⟩)) x4 x5 h x) := by
  refine (joinedS _ _ b h n c x).trans ?_
  rw [sample_gf, sample_gb]

theorem scan_sP (b : Fin 32) (h : Fin 4) (x : Fin 128) (e : Fin 256) : (val_main_v40 (F := Ideal) (ix4 b h x e) : EReal) = 0 := by
  pointwise [val_main_v40, val_main_v0, val_main_cst]
  exact ite_self _

theorem scan_sS (b : Fin 8) (h : Fin 4) (x : Fin 128) (e : Fin 256) : (val_main_v303 (F := Ideal) x6 (ix4 b h x e) : EReal)
    = x6 (ix5 (seqS b) (if b.val < 4 then 0 else 1) h x e) := by
  by_cases hb : b.val < 4
  · have e : seqS b = ⟨b.val, hb⟩ := Fin.ext (by simp only [seqS]; omega)
    rw [e, if_pos hb]
    pointwise [val_main_v303, val_main_v130, val_main_v131, val_main_v132, val_main_v133]
    exact dif_pos hb
  · have e : seqS b = ⟨b.val - 4, by omega⟩ := Fin.ext (by simp only [seqS]; omega)
    rw [e, if_neg hb]
    pointwise [val_main_v303, val_main_v130, val_main_v131, val_main_v132, val_main_v133]
    exact dif_neg hb

end Cert.Gla
-- ==== Proof.GlaBlk.lean ====
/-
  Gated linear attention: what the kernel's stages read at a grid point, in terms of the arguments.
-/
module

public import proofs.«01_k».proof.Proof.GlaRefTok
public import proofs.«01_k».proof.Proof.Gen.KernelIdeal.Value
public import Idealize.ShloMosaic.Lib.ValueIdxRank6

@[expose] public section

set_option maxRecDepth 16384

noncomputable section

namespace Cert.Gla

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where each window's block lies at each grid point. -/
theorem index_facts : ∀ t : Fin cfg0.N,
    (win0_0.index t = ![(grid0.coords t 0).val, (grid0.coords t 1).val]
    ∧ win0_1.index t = ![(grid0.coords t 0).val, 4 + (grid0.coords t 1).val]
    ∧ win0_2.index t = ![(grid0.coords t 0).val, 4 + (grid0.coords t 1).val]
    ∧ win0_3.index t = ![(grid0.coords t 0).val, 44]
    ∧ win0_4.index t = ![0, (grid0.coords t 1).val] ∧ win0_5.index t = ![0, (grid0.coords t 1).val])
    ∧ win0_6.index t = ![0, (grid0.coords t 1).val] ∧ win0_7.index t = ![0, (grid0.coords t 1).val]
    ∧ win0_8.index t = ![if (grid0.coords t 0).val < 4 then 0 else 1, 0, 0]
    ∧ win0_9.index t = ![if (grid0.coords t 0).val < 4 then 0 else 1, 0, 0]
    ∧ win0_10.index t = ![(grid0.coords t 0).val - 4, 0, (grid0.coords t 1).val, 0, 0]
    ∧ win0_11.index t = ![(grid0.coords t 0).val, (grid0.coords t 1).val]
    ∧ win0_12.index t = ![(grid0.coords t 0).val, 0, 0, (grid0.coords t 1).val, 0, 0] :=
  (by decide +kernel)

/-- A sum over 128 columns whose weights are zero outside sixteen of them. -/
theorem sum_window (o : ℕ) (ho : o + 16 ≤ 128) (f : Fin 128 → EReal) (w : Fin 128 → EReal) (u : Fin 16 → EReal)
    (hw : ∀ i : Fin 16, w ⟨o + i.val, by omega⟩ = u i) (hz : ∀ l : Fin 128, ¬ (o ≤ l.val ∧ l.val < o + 16) → w l = 0) :
    ∑ l : Fin 128, f l * w l = ∑ i : Fin 16, f ⟨o + i.val, by omega⟩ * u i := by
  refine (Finset.sum_of_injOn (fun i : Fin 16 => (⟨o + i.val, by omega⟩ : Fin 128)) ?_ (fun _ _ => Finset.mem_coe.2 (Finset.mem_univ _)) ?_ ?_).symm
  · intro i _ j _ hij
    have := congrArg Fin.val hij
    exact Fin.ext (by simp only [] at this; omega)
  · intro l _ hl
    rw [hz l fun ⟨h1, h2⟩ => hl ⟨⟨l.val - o, by omega⟩, Finset.mem_coe.2 (Finset.mem_univ _), Fin.ext (by simp only []; omega)⟩, mul_zero]
  · intro i _
    rw [hw i]

/-- The projection of token `a` of block `J` at column `l`. -/
def tok (J : Fin 8) (a : Fin 1024) (l : Fin 5664) : EReal :=
  proj (m (c.tc.loc main_arg0)) (m (c.tc.loc main_arg1)) ⟨J.val * 1024 + a.val, by omega⟩ l

variable (t : Fin cfg0.N) (J : Fin 8) (H : Fin 4) (hJ : (grid0.coords t 0).val = J.val) (hH : (grid0.coords t 1).val = H.val)

/-- What the stages read at a grid point. -/
abbrev blocksAt : Blocks Ideal :=
  blocksOf (iblk m c 0 t) (iblk m c 1 t) (X0_2 m c t) (iblk m c 3 t) (iblk m c 4 t) (iblk m c 5 t) (iblk m c 6 t) (iblk m c 7 t)
    (iblk m c 8 t) (iblk m c 9 t) (iblk m c 10 t)

include hJ hH

theorem blk_q (a : Fin 1024) (x : Fin 128) : (iblk m c 0 t : S1024x128.Idx → EReal) (ix2 a x)
    = tok m c J a ⟨H.val * 128 + x.val, by omega⟩ := by
  obtain ⟨⟨e0, -⟩, -⟩ := index_facts t
  rw [hJ, hH] at e0
  refine Eq.trans ?_ (entry_head m c ⟨J.val * 1024 + a.val, by omega⟩ ⟨H.val * 128 + x.val, by omega⟩ (by simp only []; omega))
  blk_ext [iblk, e0]

theorem blk_k (a : Fin 1024) (x : Fin 128) : (iblk m c 1 t : S1024x128.Idx → EReal) (ix2 a x)
    = tok m c J a ⟨512 + (H.val * 128 + x.val), by omega⟩ := by
  obtain ⟨⟨-, e0, -⟩, -⟩ := index_facts t
  rw [hJ, hH] at e0
  refine Eq.trans ?_ (entry_head m c ⟨J.val * 1024 + a.val, by omega⟩ ⟨512 + (H.val * 128 + x.val), by omega⟩ (by simp only []; omega))
  blk_ext [iblk, e0]

theorem blk_v (a : Fin 1024) (x : Fin 256) : (X0_2 m c t : S1024x256.Idx → EReal) (ix2 a x)
    = tok m c J a ⟨1024 + (H.val * 256 + x.val), by omega⟩ := by
  obtain ⟨⟨-, -, e0, -⟩, -⟩ := index_facts t
  rw [hJ, hH] at e0
  unfold X0_2 Pipeline.Window.fill
  rw [dif_pos (moved0_2 t _)]
  refine Eq.trans ?_ (entry_head m c ⟨J.val * 1024 + a.val, by omega⟩ ⟨1024 + (H.val * 256 + x.val), by omega⟩ (by simp only []; omega))
  blk_ext [iblk, e0]

theorem blk_lowrank (a : Fin 1024) (i : Fin 128) (hi : i.val < 32) : (iblk m c 3 t : S1024x128.Idx → EReal) (ix2 a i)
    = tok m c J a ⟨3072 + i.val, by omega⟩ := by
  obtain ⟨⟨-, -, -, e0, -⟩, -⟩ := index_facts t
  rw [hJ] at e0
  refine Eq.trans ?_ (entry_lowrank m c ⟨J.val * 1024 + a.val, by omega⟩ i hi)
  blk_ext [iblk, e0]

omit hJ in
theorem blk_wf (i x : Fin 128) : (iblk m c 4 t : S128x128.Idx → EReal) (ix2 i x)
    = if h : i.val < 16 then (show EReal from (m (c.tc.loc main_arg2) : S16x512.Idx → EReal) (ix2 ⟨i.val, h⟩ ⟨H.val * 128 + x.val, by omega⟩)) else 0 := by
  obtain ⟨⟨-, -, -, -, e0, -⟩, -⟩ := index_facts t
  rw [hH] at e0
  refine Eq.trans ?_ (entry_waf m c i ⟨H.val * 128 + x.val, by omega⟩)
  blk_ext [iblk, e0]

omit hJ in
theorem blk_wb (i x : Fin 128) : (iblk m c 5 t : S128x128.Idx → EReal) (ix2 i x)
    = if h : 16 ≤ i.val ∧ i.val < 32 then (show EReal from (m (c.tc.loc main_arg4) : S16x512.Idx → EReal) (ix2 ⟨i.val - 16, by omega⟩ ⟨H.val * 128 + x.val, by omega⟩)) else 0 := by
  obtain ⟨⟨-, -, -, -, -, e0⟩, -⟩ := index_facts t
  rw [hH] at e0
  refine Eq.trans ?_ (entry_wab m c i ⟨H.val * 128 + x.val, by omega⟩)
  blk_ext [iblk, e0]

omit hJ in
theorem blk_bf (x : Fin 128) : (iblk m c 6 t : S1x128.Idx → EReal) (ix2 0 x)
    = (m (c.tc.loc main_arg3) : S512.Idx → EReal) (ix1 ⟨H.val * 128 + x.val, by omega⟩) := by
  obtain ⟨-, e0, -⟩ := index_facts t
  rw [hH] at e0
  refine Eq.trans ?_ (entry_baf m c ⟨H.val * 128 + x.val, by omega⟩)
  blk_ext [iblk, e0]

omit hJ in
theorem blk_bb (x : Fin 128) : (iblk m c 7 t : S1x128.Idx → EReal) (ix2 0 x)
    = (m (c.tc.loc main_arg5) : S512.Idx → EReal) (ix1 ⟨H.val * 128 + x.val, by omega⟩) := by
  obtain ⟨-, -, e0, -⟩ := index_facts t
  rw [hH] at e0
  refine Eq.trans ?_ (entry_bab m c ⟨H.val * 128 + x.val, by omega⟩)
  blk_ext [iblk, e0]

set_option maxHeartbeats 1000000 in
theorem blk_cos (a : Fin 1024) (x : Fin 128) : (iblk m c 8 t : S1x1024x128.Idx → EReal) (ix3 0 a x)
    = if J.val < 4 then 1 else cosT a x := by
  obtain ⟨-, -, -, e0, -⟩ := index_facts t
  rw [hJ] at e0
  by_cases h : J.val < 4
  · rw [if_pos h] at e0 ⊢
    refine Eq.trans ?_ (entry_cos_zero m c a x)
    blk_ext [iblk, e0]
  · rw [if_neg h] at e0 ⊢
    refine Eq.trans ?_ (entry_cos m c a x)
    blk_ext [iblk, e0]

set_option maxHeartbeats 1000000 in
theorem blk_sin (a : Fin 1024) (x : Fin 128) : (iblk m c 9 t : S1x1024x128.Idx → EReal) (ix3 0 a x)
    = if J.val < 4 then 0 else sinT a x := by
  obtain ⟨-, -, -, -, e0, -⟩ := index_facts t
  rw [hJ] at e0
  by_cases h : J.val < 4
  · rw [if_pos h] at e0 ⊢
    refine Eq.trans ?_ (entry_sin_zero m c a x)
    blk_ext [iblk, e0]
  · rw [if_neg h] at e0 ⊢
    refine Eq.trans ?_ (entry_sin m c a x)
    blk_ext [iblk, e0]

theorem blk_s0 (d : Fin 2) (x : Fin 128) (e : Fin 256) : (iblk m c 10 t : S1x2x1x128x256.Idx → EReal) (ix5 0 d 0 x e)
    = (m (c.tc.loc main_arg6) : S4x2x4x128x256.Idx → EReal) (ix5 ⟨J.val - 4, by omega⟩ d H x e) := by
  obtain ⟨-, -, -, -, -, e0, -⟩ := index_facts t
  rw [hJ, hH] at e0
  rw [← V_main_arg6 m c]
  blk_ext [iblk, e0]

theorem read_gf (a : Fin 1024) (x : Fin 128) : ((blocksAt m c t).g false (ix2 a x) : EReal)
    = gate (logit (fun i => tok m c J a ⟨3072 + i.val, by omega⟩) (m (c.tc.loc main_arg2)) (m (c.tc.loc main_arg3)) H x) := by
  refine (gate_false _ _ _ _ _ _ _ _ _ _ _ a x).trans (congrArg gate (congrArg₂ (· + ·) ?_ (blk_bf m c t J H hH x)))
  have hw : ∀ i : Fin 16, (iblk m c 4 t : S128x128.Idx → EReal) (ix2 ⟨0 + i.val, by omega⟩ x)
      = (m (c.tc.loc main_arg2) : S16x512.Idx → EReal) (ix2 ⟨0 + i.val, by omega⟩ ⟨H.val * 128 + x.val, by omega⟩) := fun i => by
    rw [blk_wf m c t J H hH]
    exact dif_pos (show 0 + i.val < 16 by omega)
  have hz : ∀ l : Fin 128, ¬ (0 ≤ l.val ∧ l.val < 0 + 16) → (iblk m c 4 t : S128x128.Idx → EReal) (ix2 l x) = (0 : EReal) := fun l hl => by
    rw [blk_wf m c t J H hH]
    exact dif_neg (by omega)
  refine (sum_window 0 (by omega) (fun l => (iblk m c 3 t : S1024x128.Idx → EReal) (ix2 a l)) (fun l => (iblk m c 4 t : S128x128.Idx → EReal) (ix2 l x)) _ hw hz).trans ?_
  refine Finset.sum_congr rfl fun i _ => congrArg₂ (· * ·) ?_ ?_
  · refine (blk_lowrank m c t J H hJ hH a _ (by simp only []; omega)).trans ?_
    exact congrArg (tok m c J a) (Fin.ext (by simp only []; omega))
  · exact congrArg (m (c.tc.loc main_arg2)) (congrArg (fun i => ix2 i _) (Fin.ext (by simp only []; omega)))

theorem read_gb (a : Fin 1024) (x : Fin 128) : ((blocksAt m c t).g true (ix2 a x) : EReal)
    = gate (logit (fun i => tok m c J a ⟨3088 + i.val, by omega⟩) (m (c.tc.loc main_arg4)) (m (c.tc.loc main_arg5)) H x) := by
  refine (gate_true _ _ _ _ _ _ _ _ _ _ _ a x).trans (congrArg gate (congrArg₂ (· + ·) ?_ (blk_bb m c t J H hH x)))
  have hw : ∀ i : Fin 16, (iblk m c 5 t : S128x128.Idx → EReal) (ix2 ⟨16 + i.val, by omega⟩ x)
      = (m (c.tc.loc main_arg4) : S16x512.Idx → EReal) (ix2 ⟨16 + i.val - 16, by omega⟩ ⟨H.val * 128 + x.val, by omega⟩) := fun i => by
    rw [blk_wb m c t J H hH]
    exact dif_pos (show 16 ≤ 16 + i.val ∧ 16 + i.val < 32 by omega)
  have hz : ∀ l : Fin 128, ¬ (16 ≤ l.val ∧ l.val < 16 + 16) → (iblk m c 5 t : S128x128.Idx → EReal) (ix2 l x) = (0 : EReal) := fun l hl => by
    rw [blk_wb m c t J H hH]
    exact dif_neg (by omega)
  refine (sum_window 16 (by omega) (fun l => (iblk m c 3 t : S1024x128.Idx → EReal) (ix2 a l)) (fun l => (iblk m c 5 t : S128x128.Idx → EReal) (ix2 l x)) _ hw hz).trans ?_
  refine Finset.sum_congr rfl fun i _ => congrArg₂ (· * ·) ?_ ?_
  · refine (blk_lowrank m c t J H hJ hH a _ (by simp only []; omega)).trans ?_
    exact congrArg (tok m c J a) (Fin.ext (by simp only []; omega))
  · exact congrArg (m (c.tc.loc main_arg4)) (congrArg (fun i => ix2 i _) (Fin.ext (by simp only []; omega)))

theorem gate_fin (d : Bool) (i) : (blocksAt m c t).g d i ≠ (⊤ : EReal) := by
  rw [ValueIdx.eq_ix2 i]
  cases d
  · exact fun h => gate_ne_top _ ((read_gf m c t J H hJ hH (i 0) (i 1)).symm.trans h)
  · exact fun h => gate_ne_top _ ((read_gb m c t J H hJ hH (i 0) (i 1)).symm.trans h)

theorem read_q (a : Fin 1024) (x : Fin 128) : ((blocksAt m c t).q (ix2 a x) : EReal)
    = if J.val < 4 then tok m c J a ⟨H.val * 128 + x.val, by omega⟩ * Ideal.ofBits FTy.f32 0x3DB504F3#32
      else tok m c J a ⟨H.val * 128 + x.val, by omega⟩ * Ideal.ofBits FTy.f32 0x3DB504F3#32 * cosT a x
        + tok m c J a ⟨H.val * 128 + (partner x).val, by omega⟩ * Ideal.ofBits FTy.f32 0x3DB504F3#32 * sinT a x := by
  refine (query _ _ _ _ _ _ _ _ _ _ _ a x).trans ?_
  rw [blk_q m c t J H hJ hH, blk_q m c t J H hJ hH, blk_cos m c t J H hJ hH, blk_sin m c t J H hJ hH]
  split
  · rw [mul_one, mul_zero, add_zero]
  · rfl

theorem read_k (a : Fin 1024) (x : Fin 128) : ((blocksAt m c t).k (ix2 a x) : EReal)
    = if J.val < 4 then tok m c J a ⟨512 + (H.val * 128 + x.val), by omega⟩
      else tok m c J a ⟨512 + (H.val * 128 + x.val), by omega⟩ * cosT a x
        + tok m c J a ⟨512 + (H.val * 128 + (partner x).val), by omega⟩ * sinT a x := by
  refine (key _ _ _ _ _ _ _ _ _ _ _ a x).trans ?_
  rw [blk_k m c t J H hJ hH, blk_k m c t J H hJ hH, blk_cos m c t J H hJ hH, blk_sin m c t J H hJ hH]
  split
  · rw [mul_one, mul_zero, add_zero]
  · rfl

theorem read_s0 (d : Bool) (x : Fin 128) (e : Fin 256) : ((blocksAt m c t).s0 d (ix5 0 0 0 x e) : EReal)
    = (m (c.tc.loc main_arg6) : S4x2x4x128x256.Idx → EReal) (ix5 ⟨J.val - 4, by omega⟩ (if d = false then 0 else 1) H x e) := by
  cases d
  · exact (start_false _ _ _ _ _ _ _ _ _ _ _ x e).trans (blk_s0 m c t J H hJ hH 0 x e)
  · exact (start_true _ _ _ _ _ _ _ _ _ _ _ x e).trans (blk_s0 m c t J H hJ hH 1 x e)

end Cert.Gla
-- ==== Proof.GlaRefScan.lean ====
/-
  Running sums, joined arrays and steps of a scan as the reference's host program writes them.
-/
module

public import proofs.«01_k».proof.Proof.GlaScan
public import proofs.«01_k».proof.Proof.Gen.ReferenceIdeal.Read

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Read

theorem foldl_sum {n : ℕ} (l : List (Fin n)) (f : EReal → Fin n → EReal) (F : Fin n → EReal) (hf : ∀ r i, f r i = r + F i) (z : EReal) :
    l.foldl f z = z + (l.map F).sum := by
  induction l generalizing z with
  | nil => simp
  | cons a l ih => rw [List.foldl_cons, ih, hf, List.map_cons, List.sum_cons, add_assoc]

/-- The window of a running sum: 64 positions on one axis. -/
abbrev win : Shape := ⟨5, ![1, 1, 1, 64, 1]⟩

theorem win_numel : win.numel = 64 := by decide +kernel

theorem win_symm (m : Fin win.numel) : win.rowMajor.symm m = ix5 (0 : Fin 1) (0 : Fin 1) (0 : Fin 1) (m.cast win_numel) (0 : Fin 1) := by
  rw [Equiv.symm_apply_eq]
  refine Fin.ext ?_
  rw [Shape.rowMajor_val_five]
  simp

/-- The running sum along the fourth axis. -/
theorem running_sum {A H N X : ℕ} (x : (⟨5, ![A, H, N, 64, X]⟩ : Shape).Idx → EReal)
    (hw : (⟨5, ![A, H, N, 64, X]⟩ : Shape).ReduceWindows (![1, 1, 1, 64, 1] : Fin 5 → ℕ) ![1, 1, 1, 1, 1] ![0, 0, 0, 63, 0] ![0, 0, 0, 0, 0] ⟨5, ![A, H, N, 64, X]⟩)
    (b : Fin A) (h : Fin H) (n : Fin N) (c : Fin 64) (y : Fin X) :
    (Ideal.hostReduceWindowAdd (![1, 1, 1, 64, 1] : Fin 5 → ℕ) ![1, 1, 1, 1, 1] ![0, 0, 0, 63, 0] ![0, 0, 0, 0, 0] hw x 0 (ix5 b h n c y) : EReal)
      = ∑ i : Fin 64, if i.val ≤ c.val then x (ix5 b h n i y) else 0 := by
  unfold Ideal.hostReduceWindowAdd Host.reduceWindow
  have key : ∀ (m : Fin win.numel) (_ : Decidable (∀ a : Fin 5, (![0, 0, 0, 63, 0] : Fin 5 → ℕ) a ≤ (ix5 b h n c y a).val * (![1, 1, 1, 1, 1] : Fin 5 → ℕ) a + (win.rowMajor.symm m a).val
        ∧ (ix5 b h n c y a).val * (![1, 1, 1, 1, 1] : Fin 5 → ℕ) a + (win.rowMajor.symm m a).val - (![0, 0, 0, 63, 0] : Fin 5 → ℕ) a < (⟨5, ![A, H, N, 64, X]⟩ : Shape).size a)),
      ((if hin : ∀ a : Fin 5, (![0, 0, 0, 63, 0] : Fin 5 → ℕ) a ≤ (ix5 b h n c y a).val * (![1, 1, 1, 1, 1] : Fin 5 → ℕ) a + (win.rowMajor.symm m a).val
        ∧ (ix5 b h n c y a).val * (![1, 1, 1, 1, 1] : Fin 5 → ℕ) a + (win.rowMajor.symm m a).val - (![0, 0, 0, 63, 0] : Fin 5 → ℕ) a < (⟨5, ![A, H, N, 64, X]⟩ : Shape).size a
      then x (fun a => ⟨_, (hin a).2⟩) else 0) : EReal)
      = (fun i : Fin 64 => if i.val ≤ c.val then x (ix5 b h n i y) else 0) (((finCongr win_numel).trans (Equiv.addRight (c + 1))) m) := by
    intro m _
    have hm : (m.cast win_numel).val = m.val := rfl
    have hlt : m.val < 64 := m.isLt.trans_eq win_numel
    have hv : (((finCongr win_numel).trans (Equiv.addRight (c + 1))) m).val = (m.val + c.val + 1) % 64 := by
      simp [Fin.val_add]
    simp only [win_symm]
    by_cases hle : 63 ≤ m.val + c.val
    · have hin : ∀ a : Fin 5, (![0, 0, 0, 63, 0] : Fin 5 → ℕ) a ≤ (ix5 b h n c y a).val * (![1, 1, 1, 1, 1] : Fin 5 → ℕ) a
            + ((ix5 (0 : Fin 1) (0 : Fin 1) (0 : Fin 1) (m.cast win_numel) (0 : Fin 1) : win.Idx) a).val
          ∧ (ix5 b h n c y a).val * (![1, 1, 1, 1, 1] : Fin 5 → ℕ) a
            + ((ix5 (0 : Fin 1) (0 : Fin 1) (0 : Fin 1) (m.cast win_numel) (0 : Fin 1) : win.Idx) a).val
            - (![0, 0, 0, 63, 0] : Fin 5 → ℕ) a < (⟨5, ![A, H, N, 64, X]⟩ : Shape).size a := by
        intro a
        fin_cases a <;> simp <;> omega
      rw [dif_pos hin, if_pos (by rw [hv]; omega)]
      refine congrArg x ?_
      funext a
      refine Fin.ext ?_
      fin_cases a
      · simp
      · simp
      · simp
      · refine Eq.trans ?_ hv.symm
        simp
        omega
      · simp
    · rw [dif_neg fun hin => hle (by have := (hin 3).1; simp at this; omega), if_neg (by rw [hv]; omega)]
  refine (foldl_sum _ _ (fun m : Fin win.numel => (fun i : Fin 64 => if i.val ≤ c.val then x (ix5 b h n i y) else 0)
    (((finCongr win_numel).trans (Equiv.addRight (c + 1))) m)) (fun r m => ?_) 0).trans ?_
  · exact congrArg (r + ·) (key m _)
  rw [zero_add, ← List.ofFn_eq_map, List.sum_ofFn]
  exact Equiv.sum_comp ((finCongr win_numel).trans (Equiv.addRight (c + 1))) fun i : Fin 64 => if i.val ≤ c.val then x (ix5 b h n i y) else 0

end Cert.Gla
-- ==== Proof.GlaRef.lean ====
/-
  The reference's scans: what its program writes for the chunks of a sequence, read as the scan of gated linear attention.
-/
module

public import proofs.«01_k».proof.Proof.GlaRefScan
public import proofs.«01_k».proof.Proof.GlaRefTok

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Read

/-- Row `c` of 64 rows is not before row `s`, as words compare them. -/
theorem row_order : ∀ c s : Fin 64, IntOp.cmpi CmpIPredicate.sge (BitVec.ofNat 32 c.val) (BitVec.ofNat 32 s.val) = if s.val ≤ c.val then 1#1 else 0#1 := by
  decide +kernel

variable (x0 : S16x256x5664.Idx → EReal) (x1 : S4x1024x5664.Idx → EReal) (x2 : S16x512.Idx → EReal) (x3 : S512.Idx → EReal)
  (x4 : S16x512.Idx → EReal) (x5 : S512.Idx → EReal) (x6 : S4x2x4x128x256.Idx → EReal)

/-! ## The context's scans -/

/-- A scan of the reference. -/
def scanP (b : Fin 32) (h : Fin 4) : Scan where
  q n c y := val_main_v41 (F := Ideal) x0 (ix5 b h ⟨n % 4, Nat.mod_lt n (by decide : 0 < 4)⟩ c y)
  k n c y := val_main_v42 (F := Ideal) x0 (ix5 b h ⟨n % 4, Nat.mod_lt n (by decide : 0 < 4)⟩ c y)
  g n c y := val_main_v44 (F := Ideal) x0 x2 x3 x4 x5 (ix5 b h ⟨n % 4, Nat.mod_lt n (by decide : 0 < 4)⟩ c y)
  v n c e := val_main_v43 (F := Ideal) x0 (ix5 b h ⟨n % 4, Nat.mod_lt n (by decide : 0 < 4)⟩ c e)
  s0 y e := val_main_v40 (F := Ideal) (ix4 b h y e)

theorem atP (n : Fin 4) : (⟨n.val % 4, Nat.mod_lt _ (by decide)⟩ : Fin 4) = n := Fin.ext (Nat.mod_eq_of_lt n.isLt)

/-- The running sums of the gates. -/
theorem cumP (b : Fin 32) (h : Fin 4) (n : Fin 4) (c : Fin 64) (y : Fin 128) : (val_main_v45 (F := Ideal) x0 x2 x3 x4 x5 (ix5 b h n c y) : EReal)
    = cumSum ((scanP x0 x2 x3 x4 x5 b h).g n.val) c y := by
  have e : (val_main_call2_call0_v0 (F := Ideal) (Shape.Idx.first h_S_) : EReal) = 0 := by
    rw [ValueIdx.eq_ix0 (Shape.Idx.first h_S_)]
    pointwise [val_main_call2_call0_v0, val_main_call2_call0_cst]
  unfold val_main_v45 Host.reduceWindowAdd
  rw [e]
  unfold cumSum scanP
  simp only [atP]
  generalize val_main_v44 (F := Ideal) x0 x2 x3 x4 x5 = G
  exact running_sum G _ b h n c y

/-- The decay of a chunk. -/
theorem decayP (b : Fin 32) (h : Fin 4) (n : Fin 4) (y : Fin 128) : (val_main_v64 (F := Ideal) x0 x2 x3 x4 x5 (ix4 n b h y) : EReal)
    = Ideal.exp (cumSum ((scanP x0 x2 x3 x4 x5 b h).g n.val) 63 y) := by
  rw [← cumP]
  unfold val_main_v64 val_main_v63 val_main_v62 val_main_v46
  generalize val_main_v45 (F := Ideal) x0 x2 x3 x4 x5 = G
  pointwise []

/-- What a chunk adds to the state. -/
theorem addedP (b : Fin 32) (h : Fin 4) (n : Fin 4) (y : Fin 128) (e : Fin 256) : (val_main_v61 (F := Ideal) x0 x2 x3 x4 x5 (ix5 n b h y e) : EReal)
    = ∑ c : Fin 64, ((scanP x0 x2 x3 x4 x5 b h).k n.val c y * Ideal.exp (cumSum ((scanP x0 x2 x3 x4 x5 b h).g n.val) 63 y
      - cumSum ((scanP x0 x2 x3 x4 x5 b h).g n.val) c y)) * (scanP x0 x2 x3 x4 x5 b h).v n.val c e := by
  simp only [← cumP]
  unfold scanP
  simp only [atP]
  unfold val_main_v61 val_main_v60 val_main_v59 val_main_v58 val_main_v57 val_main_v46
  generalize val_main_v45 (F := Ideal) x0 x2 x3 x4 x5 = G
  generalize val_main_v42 (F := Ideal) x0 = k
  generalize val_main_v43 (F := Ideal) x0 = v
  pointwise []

/-- One step of the states, as the reference's program writes it. -/
def stepP (n : Fin 4) (s : S32x4x128x256.Idx → EReal) (dec : S4x32x4x128.Idx → EReal) (d : S4x32x4x128x256.Idx → EReal) : S32x4x128x256.Idx → EReal :=
  addf (F := Ideal) (φ := .f32)
    (mulf (F := Ideal) (φ := .f32) s (broadcastInDim S32x4x128x256 ![0, 1, 2, 3] bcast_S32x4x128x1_S32x4x128x256_0_1_2_3
      (broadcastInDim S32x4x128x1 ![0, 1, 2] bcast_S32x4x128_S32x4x128x1_0_1_2
        (shapeCast S32x4x128 (extractStridedSlice S1x32x4x128 ![n.val, 0, 0, 0] dec (by revert n; decide +kernel)) shapeCasts_S1x32x4x128_S32x4x128))))
    (shapeCast S32x4x128x256 (extractStridedSlice S1x32x4x128x256 ![n.val, 0, 0, 0, 0] d (by revert n; decide +kernel)) shapeCasts_S1x32x4x128x256_S32x4x128x256)

theorem stepP_read (n : Fin 4) (s : S32x4x128x256.Idx → EReal) (dec : S4x32x4x128.Idx → EReal) (d : S4x32x4x128x256.Idx → EReal) (b : Fin 32) (h : Fin 4)
    (y : Fin 128) (e : Fin 256) : (stepP n s dec d (ix4 b h y e) : EReal) = s (ix4 b h y e) * dec (ix4 n b h y) + d (ix5 n b h y e) := by
  pointwise [stepP]

/-- The states before each chunk and after the last. -/
def statesP : Fin 5 → S32x4x128x256.Idx → EReal :=
  ![val_main_v40 (F := Ideal),
    val_main_v72 (F := Ideal) x0 x2 x3 x4 x5,
    val_main_v80 (F := Ideal) x0 x2 x3 x4 x5,
    val_main_v88 (F := Ideal) x0 x2 x3 x4 x5,
    val_main_v96 (F := Ideal) x0 x2 x3 x4 x5]

theorem statesP_step : ∀ n : Fin 4, statesP x0 x2 x3 x4 x5 n.succ = stepP n (statesP x0 x2 x3 x4 x5 n.castSucc) (val_main_v64 (F := Ideal) x0 x2 x3 x4 x5) (val_main_v61 (F := Ideal) x0 x2 x3 x4 x5) := by
  intro n
  fin_cases n <;> rfl

/-- The state before a chunk. -/
theorem statesP_eq (b : Fin 32) (h : Fin 4) (y : Fin 128) (e : Fin 256) : ∀ n : Fin 5,
    statesP x0 x2 x3 x4 x5 n (ix4 b h y e) = (scanP x0 x2 x3 x4 x5 b h).state n.val y e := by
  intro n
  induction n using Fin.induction generalizing y e with
  | zero => rfl
  | succ n ih =>
    rw [statesP_step, stepP_read, decayP, addedP, ih]
    rfl

/-- The states joined along a new axis. -/
theorem joinedStatesP (b : Fin 32) (h : Fin 4) (n : Fin 4) (y : Fin 128) (e : Fin 256) :
    (val_main_v101 (F := Ideal) x0 x2 x3 x4 x5 (ix5 n b h y e) : EReal) = (scanP x0 x2 x3 x4 x5 b h).state n.val y e := by
  refine Eq.trans ?_ (statesP_eq x0 x2 x3 x4 x5 b h y e n.castSucc)
  pointwise [val_main_v101, val_main_v97, val_main_v98, val_main_v99, val_main_v100]
  fin_cases n <;> rfl

/-- The outputs of a chunk. -/
theorem outP (b : Fin 32) (h : Fin 4) (n : Fin 4) (c : Fin 64) (e : Fin 256) :
    (val_main_v103 (F := Ideal) x0 x2 x3 x4 x5 (ix5 b h n c e) : EReal) = (scanP x0 x2 x3 x4 x5 b h).out n.val c e := by
  unfold Scan.out intra inter
  simp only [← cumP, ← joinedStatesP]
  unfold scanP
  simp only [atP]
  unfold val_main_v103 val_main_v56 val_main_v102 val_main_v55 val_main_v52 val_main_v48 val_main_v47 val_main_v51 val_main_v50 val_main_v49
  generalize val_main_v45 (F := Ideal) x0 x2 x3 x4 x5 = G
  generalize val_main_v41 (F := Ideal) x0 = q
  generalize val_main_v42 (F := Ideal) x0 = k
  generalize val_main_v43 (F := Ideal) x0 = v
  generalize val_main_v101 (F := Ideal) x0 x2 x3 x4 x5 = S
  pointwise [val_main_call4_v1, val_main_v54, val_main_call3_v4, val_main_call3_v2, val_main_call3_v0, val_main_call3_v1, val_main_call3_c, val_main_call3_v3, val_main_v53, val_main_c, val_main_call3_v5, val_main_call3_c_0, val_main_call4_v2, val_main_call4_v0, val_main_cst_3]
  refine congrArg (· + _) (Finset.sum_congr rfl fun s _ => ?_)
  rw [show (IntOp.addi (BitVec.ofNat 32 c.val) 0#32) = BitVec.ofNat 32 c.val from BitVec.add_zero _, row_order]
  by_cases hs : s.val ≤ c.val
  · rw [if_pos hs, if_pos hs]
    rfl
  · rw [if_neg hs, if_neg hs]
    refine Eq.trans (congrArg (· * _) ?_) (zero_mul _)
    exact Ideal.ofBits_zero_f32

end Cert.Gla
-- ==== Proof.GlaRefS.lean ====
/-
  The reference's scans of the samples, read as the scan of gated linear attention.
-/
module

public import proofs.«01_k».proof.Proof.GlaRef

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Read

variable (x0 : S16x256x5664.Idx → EReal) (x1 : S4x1024x5664.Idx → EReal) (x2 : S16x512.Idx → EReal) (x3 : S512.Idx → EReal)
  (x4 : S16x512.Idx → EReal) (x5 : S512.Idx → EReal) (x6 : S4x2x4x128x256.Idx → EReal)

/-! ## The samples' scans -/

/-- A scan of the reference. -/
def scanS (b : Fin 8) (h : Fin 4) : Scan where
  q n c y := val_main_v304 (F := Ideal) x1 (ix5 b h ⟨n % 16, Nat.mod_lt n (by decide : 0 < 16)⟩ c y)
  k n c y := val_main_v305 (F := Ideal) x1 (ix5 b h ⟨n % 16, Nat.mod_lt n (by decide : 0 < 16)⟩ c y)
  g n c y := val_main_v307 (F := Ideal) x1 x2 x3 x4 x5 (ix5 b h ⟨n % 16, Nat.mod_lt n (by decide : 0 < 16)⟩ c y)
  v n c e := val_main_v306 (F := Ideal) x1 (ix5 b h ⟨n % 16, Nat.mod_lt n (by decide : 0 < 16)⟩ c e)
  s0 y e := val_main_v303 (F := Ideal) x6 (ix4 b h y e)

theorem atS (n : Fin 16) : (⟨n.val % 16, Nat.mod_lt _ (by decide)⟩ : Fin 16) = n := Fin.ext (Nat.mod_eq_of_lt n.isLt)

/-- The running sums of the gates. -/
theorem cumS (b : Fin 8) (h : Fin 4) (n : Fin 16) (c : Fin 64) (y : Fin 128) : (val_main_v308 (F := Ideal) x1 x2 x3 x4 x5 (ix5 b h n c y) : EReal)
    = cumSum ((scanS x1 x2 x3 x4 x5 x6 b h).g n.val) c y := by
  have e : (val_main_call7_call0_v0 (F := Ideal) (Shape.Idx.first h_S_) : EReal) = 0 := by
    rw [ValueIdx.eq_ix0 (Shape.Idx.first h_S_)]
    pointwise [val_main_call7_call0_v0, val_main_call7_call0_cst]
  unfold val_main_v308 Host.reduceWindowAdd
  rw [e]
  unfold cumSum scanS
  simp only [atS]
  generalize val_main_v307 (F := Ideal) x1 x2 x3 x4 x5 = G
  exact running_sum G _ b h n c y

/-- The decay of a chunk. -/
theorem decayS (b : Fin 8) (h : Fin 4) (n : Fin 16) (y : Fin 128) : (val_main_v327 (F := Ideal) x1 x2 x3 x4 x5 (ix4 n b h y) : EReal)
    = Ideal.exp (cumSum ((scanS x1 x2 x3 x4 x5 x6 b h).g n.val) 63 y) := by
  rw [← cumS]
  unfold val_main_v327 val_main_v326 val_main_v325 val_main_v309
  generalize val_main_v308 (F := Ideal) x1 x2 x3 x4 x5 = G
  pointwise []

/-- What a chunk adds to the state. -/
theorem addedS (b : Fin 8) (h : Fin 4) (n : Fin 16) (y : Fin 128) (e : Fin 256) : (val_main_v324 (F := Ideal) x1 x2 x3 x4 x5 (ix5 n b h y e) : EReal)
    = ∑ c : Fin 64, ((scanS x1 x2 x3 x4 x5 x6 b h).k n.val c y * Ideal.exp (cumSum ((scanS x1 x2 x3 x4 x5 x6 b h).g n.val) 63 y
      - cumSum ((scanS x1 x2 x3 x4 x5 x6 b h).g n.val) c y)) * (scanS x1 x2 x3 x4 x5 x6 b h).v n.val c e := by
  simp only [← cumS]
  unfold scanS
  simp only [atS]
  unfold val_main_v324 val_main_v323 val_main_v322 val_main_v321 val_main_v320 val_main_v309
  generalize val_main_v308 (F := Ideal) x1 x2 x3 x4 x5 = G
  generalize val_main_v305 (F := Ideal) x1 = k
  generalize val_main_v306 (F := Ideal) x1 = v
  pointwise []

/-- One step of the states, as the reference's program writes it. -/
def stepS (n : Fin 16) (s : S8x4x128x256.Idx → EReal) (dec : S16x8x4x128.Idx → EReal) (d : S16x8x4x128x256.Idx → EReal) : S8x4x128x256.Idx → EReal :=
  addf (F := Ideal) (φ := .f32)
    (mulf (F := Ideal) (φ := .f32) s (broadcastInDim S8x4x128x256 ![0, 1, 2, 3] bcast_S8x4x128x1_S8x4x128x256_0_1_2_3
      (broadcastInDim S8x4x128x1 ![0, 1, 2] bcast_S8x4x128_S8x4x128x1_0_1_2
        (shapeCast S8x4x128 (extractStridedSlice S1x8x4x128 ![n.val, 0, 0, 0] dec (by revert n; decide +kernel)) shapeCasts_S1x8x4x128_S8x4x128))))
    (shapeCast S8x4x128x256 (extractStridedSlice S1x8x4x128x256 ![n.val, 0, 0, 0, 0] d (by revert n; decide +kernel)) shapeCasts_S1x8x4x128x256_S8x4x128x256)

theorem stepS_read (n : Fin 16) (s : S8x4x128x256.Idx → EReal) (dec : S16x8x4x128.Idx → EReal) (d : S16x8x4x128x256.Idx → EReal) (b : Fin 8) (h : Fin 4)
    (y : Fin 128) (e : Fin 256) : (stepS n s dec d (ix4 b h y e) : EReal) = s (ix4 b h y e) * dec (ix4 n b h y) + d (ix5 n b h y e) := by
  pointwise [stepS]

/-- The states before each chunk and after the last. -/
def statesS : Fin 17 → S8x4x128x256.Idx → EReal :=
  ![val_main_v303 (F := Ideal) x6,
    val_main_v335 (F := Ideal) x1 x2 x3 x4 x5 x6,
    val_main_v343 (F := Ideal) x1 x2 x3 x4 x5 x6,
    val_main_v351 (F := Ideal) x1 x2 x3 x4 x5 x6,
    val_main_v359 (F := Ideal) x1 x2 x3 x4 x5 x6,
    val_main_v367 (F := Ideal) x1 x2 x3 x4 x5 x6,
    val_main_v375 (F := Ideal) x1 x2 x3 x4 x5 x6,
    val_main_v383 (F := Ideal) x1 x2 x3 x4 x5 x6,
    val_main_v391 (F := Ideal) x1 x2 x3 x4 x5 x6,
    val_main_v399 (F := Ideal) x1 x2 x3 x4 x5 x6,
    val_main_v407 (F := Ideal) x1 x2 x3 x4 x5 x6,
    val_main_v415 (F := Ideal) x1 x2 x3 x4 x5 x6,
    val_main_v423 (F := Ideal) x1 x2 x3 x4 x5 x6,
    val_main_v431 (F := Ideal) x1 x2 x3 x4 x5 x6,
    val_main_v439 (F := Ideal) x1 x2 x3 x4 x5 x6,
    val_main_v447 (F := Ideal) x1 x2 x3 x4 x5 x6,
    val_main_v455 (F := Ideal) x1 x2 x3 x4 x5 x6]

theorem statesS_step : ∀ n : Fin 16, statesS x1 x2 x3 x4 x5 x6 n.succ = stepS n (statesS x1 x2 x3 x4 x5 x6 n.castSucc) (val_main_v327 (F := Ideal) x1 x2 x3 x4 x5) (val_main_v324 (F := Ideal) x1 x2 x3 x4 x5) := by
  intro n
  fin_cases n <;> rfl

/-- The state before a chunk. -/
theorem statesS_eq (b : Fin 8) (h : Fin 4) (y : Fin 128) (e : Fin 256) : ∀ n : Fin 17,
    statesS x1 x2 x3 x4 x5 x6 n (ix4 b h y e) = (scanS x1 x2 x3 x4 x5 x6 b h).state n.val y e := by
  intro n
  induction n using Fin.induction generalizing y e with
  | zero => rfl
  | succ n ih =>
    rw [statesS_step, stepS_read, decayS, addedS, ih]
    rfl

/-- The states joined along a new axis. -/
theorem joinedStatesS (b : Fin 8) (h : Fin 4) (n : Fin 16) (y : Fin 128) (e : Fin 256) :
    (val_main_v472 (F := Ideal) x1 x2 x3 x4 x5 x6 (ix5 n b h y e) : EReal) = (scanS x1 x2 x3 x4 x5 x6 b h).state n.val y e := by
  refine Eq.trans ?_ (statesS_eq x1 x2 x3 x4 x5 x6 b h y e n.castSucc)
  pointwise [val_main_v472, val_main_v456, val_main_v457, val_main_v458, val_main_v459, val_main_v460, val_main_v461, val_main_v462, val_main_v463, val_main_v464, val_main_v465, val_main_v466, val_main_v467, val_main_v468, val_main_v469, val_main_v470, val_main_v471]
  fin_cases n <;> rfl

/-- The outputs of a chunk. -/
theorem outS (b : Fin 8) (h : Fin 4) (n : Fin 16) (c : Fin 64) (e : Fin 256) :
    (val_main_v474 (F := Ideal) x1 x2 x3 x4 x5 x6 (ix5 b h n c e) : EReal) = (scanS x1 x2 x3 x4 x5 x6 b h).out n.val c e := by
  unfold Scan.out intra inter
  simp only [← cumS, ← joinedStatesS]
  unfold scanS
  simp only [atS]
  unfold val_main_v474 val_main_v319 val_main_v473 val_main_v318 val_main_v315 val_main_v311 val_main_v310 val_main_v314 val_main_v313 val_main_v312
  generalize val_main_v308 (F := Ideal) x1 x2 x3 x4 x5 = G
  generalize val_main_v304 (F := Ideal) x1 = q
  generalize val_main_v305 (F := Ideal) x1 = k
  generalize val_main_v306 (F := Ideal) x1 = v
  generalize val_main_v472 (F := Ideal) x1 x2 x3 x4 x5 x6 = S
  pointwise [val_main_call9_v1, val_main_v317, val_main_call8_v4, val_main_call8_v2, val_main_call8_v0, val_main_call8_v1, val_main_call8_c, val_main_call8_v3, val_main_v316, val_main_c_18, val_main_call8_v5, val_main_call8_c_0, val_main_call9_v2, val_main_call9_v0, val_main_cst_19]
  refine congrArg (· + _) (Finset.sum_congr rfl fun s _ => ?_)
  rw [show (IntOp.addi (BitVec.ofNat 32 c.val) 0#32) = BitVec.ofNat 32 c.val from BitVec.add_zero _, row_order]
  by_cases hs : s.val ≤ c.val
  · rw [if_pos hs, if_pos hs]
    rfl
  · rw [if_neg hs, if_neg hs]
    refine Eq.trans (congrArg (· * _) ?_) (zero_mul _)
    exact Ideal.ofBits_zero_f32

end Cert.Gla
-- ==== Proof.GlaAgree.lean ====
/-
  Gated linear attention: the scans of the kernel read the same as the scans of the reference.
-/
module

public import proofs.«01_k».proof.Proof.GlaBlk
public import proofs.«01_k».proof.Proof.GlaScan
public import proofs.«01_k».proof.Proof.GlaBlock
public import proofs.«01_k».proof.Proof.GlaRefS

@[expose] public section

set_option maxRecDepth 16384

noncomputable section

namespace Cert.Gla

open Idealize.ShloMosaic Idealize.ShloMosaic.TcCoe Idealize.SL.Sem
open Cert.KernelIdeal Cert.KernelIdeal.Gen

/-- The group of four jobs of a direction that works on sequence `i` of a block. -/
def groupOf (d : Bool) (i : Fin 4) : Fin 4 := if d then i.rev else i

/-- The reference's scan of sequence `i` of block `J` in a direction. -/
def batchP (d : Bool) (J : Fin 8) (i : Fin 4) : Fin 32 := ⟨(if d then 16 else 0) + (4 * (J.val % 4) + i.val), by split <;> omega⟩

/-- The reference's scan of the sample of block `J` in a direction. -/
def batchS (d : Bool) (J : Fin 8) : Fin 8 := ⟨(if d then 4 else 0) + J.val % 4, by split <;> omega⟩

theorem row_false (n : ℕ) (hn : n < 16) (p : Fin 64) : (row false n p).val = 64 * n + p.val := by
  simp only [row, chunk, pos]
  omega

theorem row_true (n : ℕ) (hn : n < 16) (p : Fin 64) : (row true n p).val = 1023 - (64 * n + p.val) := by
  simp only [row, chunk, pos, Fin.val_rev]
  omega

variable (m : (ℓ : Loc nD τ sig) → Buf (Elt Ideal) ℓ) (c : Dev nD)

theorem tok_prompt (J : Fin 8) (a : Fin 1024) (l : Fin 5664) (s : Fin 16) (u : Fin 256) (h : J.val * 1024 + a.val = s.val * 256 + u.val) :
    tok m c J a l = (m (c.tc.loc main_arg0) : S16x256x5664.Idx → EReal) (ix3 s u l) := by
  unfold tok proj
  rw [dif_pos (show J.val * 1024 + a.val < 4096 by omega)]
  exact congrArg₂ (fun s u => (m (c.tc.loc main_arg0) : S16x256x5664.Idx → EReal) (ix3 s u l)) (Fin.ext (by simp only []; omega)) (Fin.ext (by simp only []; omega))

theorem tok_sample (J : Fin 8) (a : Fin 1024) (l : Fin 5664) (s : Fin 4) (h : J.val = 4 + s.val) :
    tok m c J a l = (m (c.tc.loc main_arg1) : S4x1024x5664.Idx → EReal) (ix3 s a l) := by
  unfold tok proj
  rw [dif_neg (show ¬ J.val * 1024 + a.val < 4096 by omega)]
  exact congrArg₂ (fun s u => (m (c.tc.loc main_arg1) : S4x1024x5664.Idx → EReal) (ix3 s u l)) (Fin.ext (by simp only []; omega)) (Fin.ext (by simp only []; omega))

/-- Where a job of the context reads is where the reference's chunk reads. -/
theorem place_prompt (J : Fin 8) (hJ4 : J.val < 4) (d : Bool) (i : Fin 4) (n : ℕ) (hn : n < 4) (p : Fin 64) (l : Fin 5664) :
    tok m c J (row d (4 * (groupOf d i).val + n) p) l
      = (m (c.tc.loc main_arg0) : S16x256x5664.Idx → EReal)
        (ix3 (seqP (batchP d J i)) (tokP (batchP d J i) ⟨n % 4, Nat.mod_lt n (by decide : 0 < 4)⟩ p) l) := by
  refine tok_prompt m c J _ l _ _ ?_
  cases d
  · rw [row_false _ (by simp only [groupOf]; simp; omega)]
    have hb : (batchP false J i).val = 4 * (J.val % 4) + i.val := by simp [batchP]
    rw [tokP, if_pos (show (batchP false J i).val < 16 by omega)]
    simp only [groupOf, seqP, hb]
    simp
    omega
  · rw [row_true _ (by simp only [groupOf]; simp [Fin.val_rev]; omega)]
    have hb : (batchP true J i).val = 16 + (4 * (J.val % 4) + i.val) := by simp [batchP]
    rw [tokP, if_neg (show ¬ (batchP true J i).val < 16 by omega)]
    simp only [groupOf, seqP, hb]
    simp [Fin.val_rev]
    omega

/-- Where a job of a sample reads is where the reference's chunk reads. -/
theorem place_sample (J : Fin 8) (hJ4 : ¬ J.val < 4) (d : Bool) (n : ℕ) (hn : n < 16) (p : Fin 64) :
    row d (0 + n) p = tokS (batchS d J) ⟨n % 16, Nat.mod_lt n (by decide : 0 < 16)⟩ p ∧
    ∀ l, tok m c J (row d (0 + n) p) l
      = (m (c.tc.loc main_arg1) : S4x1024x5664.Idx → EReal)
        (ix3 (seqS (batchS d J)) (tokS (batchS d J) ⟨n % 16, Nat.mod_lt n (by decide : 0 < 16)⟩ p) l) := by
  have e : row d (0 + n) p = tokS (batchS d J) ⟨n % 16, Nat.mod_lt n (by decide : 0 < 16)⟩ p := by
    refine Fin.ext ?_
    cases d
    · rw [row_false _ (by omega), tokS, if_pos (by simp [batchS]; omega)]
      simp only []
      omega
    · rw [row_true _ (by omega), tokS, if_neg (by simp [batchS])]
      simp only []
      omega
  refine ⟨e, fun l => ?_⟩
  rw [e]
  refine tok_sample m c J _ l _ ?_
  cases d <;> simp [seqS, batchS] <;> omega

variable (t : Fin cfg0.N) (J : Fin 8) (H : Fin 4) (hJ : (grid0.coords t 0).val = J.val) (hH : (grid0.coords t 1).val = H.val)

include hJ hH

/-- The scan of a sequence of the context. -/
theorem agree_prompt (hJ4 : J.val < 4) (d : Bool) (i : Fin 4) :
    Scan.Agree (scanOf (blocksAt m c t) d (4 * (groupOf d i).val) fun _ _ => 0)
      (scanP (m (c.tc.loc main_arg0)) (m (c.tc.loc main_arg2)) (m (c.tc.loc main_arg3)) (m (c.tc.loc main_arg4)) (m (c.tc.loc main_arg5))
        (batchP d J i) H) 4 where
  q n hn p x := by
    refine (read_q m c t J H hJ hH _ x).trans (Eq.trans ?_ (scan_qP _ _ H _ p x).symm)
    rw [if_pos hJ4, place_prompt m c J hJ4 d i n hn p]
  k n hn p x := by
    refine (read_k m c t J H hJ hH _ x).trans (Eq.trans ?_ (scan_kP _ _ H _ p x).symm)
    rw [if_pos hJ4, place_prompt m c J hJ4 d i n hn p]
  v n hn p x := by
    refine (blk_v m c t J H hJ hH _ x).trans (Eq.trans ?_ (scan_vP _ _ H _ p x).symm)
    rw [place_prompt m c J hJ4 d i n hn p]
  g n hn p x := by
    refine Eq.trans ?_ (scan_gP _ _ _ _ _ _ H _ p x).symm
    cases d
    · rw [if_pos (show (batchP false J i).val < 16 by simp [batchP]; omega)]
      refine (read_gf m c t J H hJ hH _ x).trans ?_
      simp only [place_prompt m c J hJ4 false i n hn p]
    · rw [if_neg (show ¬ (batchP true J i).val < 16 by simp [batchP])]
      refine (read_gb m c t J H hJ hH _ x).trans ?_
      simp only [place_prompt m c J hJ4 true i n hn p]
  s0 x e := (scan_sP _ H x e).symm

/-- The scan of a sample. -/
theorem agree_sample (hJ4 : ¬ J.val < 4) (d : Bool) :
    Scan.Agree (scanOf (blocksAt m c t) d 0 fun x e => (blocksAt m c t).s0 d (ix5 0 0 0 x e))
      (scanS (m (c.tc.loc main_arg1)) (m (c.tc.loc main_arg2)) (m (c.tc.loc main_arg3)) (m (c.tc.loc main_arg4)) (m (c.tc.loc main_arg5))
        (m (c.tc.loc main_arg6)) (batchS d J) H) 16 where
  q n hn p x := by
    refine (read_q m c t J H hJ hH _ x).trans (Eq.trans ?_ (scan_qS _ _ H _ p x).symm)
    obtain ⟨e, h⟩ := place_sample m c J hJ4 d n hn p
    rw [if_neg hJ4, h, h, e]
  k n hn p x := by
    refine (read_k m c t J H hJ hH _ x).trans (Eq.trans ?_ (scan_kS _ _ H _ p x).symm)
    obtain ⟨e, h⟩ := place_sample m c J hJ4 d n hn p
    rw [if_neg hJ4, h, h, e]
  v n hn p x := by
    refine (blk_v m c t J H hJ hH _ x).trans (Eq.trans ?_ (scan_vS _ _ H _ p x).symm)
    rw [(place_sample m c J hJ4 d n hn p).2]
  g n hn p x := by
    refine Eq.trans ?_ (scan_gS _ _ _ _ _ _ H _ p x).symm
    cases d
    · rw [if_pos (show (batchS false J).val < 4 by simp [batchS]; omega)]
      refine (read_gf m c t J H hJ hH _ x).trans ?_
      simp only [(place_sample m c J hJ4 false n hn p).2]
    · rw [if_neg (show ¬ (batchS true J).val < 4 by simp [batchS])]
      refine (read_gb m c t J H hJ hH _ x).trans ?_
      simp only [(place_sample m c J hJ4 true n hn p).2]
  s0 x e := by
    refine (read_s0 m c t J H hJ hH d x e).trans (Eq.trans ?_ (scan_sS _ _ H x e).symm)
    have es : (⟨J.val - 4, by omega⟩ : Fin 4) = seqS (batchS d J) := by
      refine Fin.ext ?_
      cases d <;> simp [seqS, batchS] <;> omega
    have ed : (if d = false then 0 else 1 : Fin 2) = if (batchS d J).val < 4 then 0 else 1 := by
      cases d
      · rw [if_pos rfl, if_pos (by simp [batchS]; omega)]
      · rw [if_neg (by decide), if_neg (by simp [batchS])]
    rw [es, ed]

end Cert.Gla
-- ==== Proof.GlaRefOut.lean ====
/-
  The reference's results at an index: the attention of a token, normalised, and the context's last states.
-/
module

public import proofs.«01_k».proof.Proof.GlaRefS
public import Idealize.ShloMosaic.Lib.ValueIdxRank6

@[expose] public section

set_option maxRecDepth 16384

noncomputable section

namespace Cert.Gla

open Idealize.ShloMosaic Idealize.ShloMosaic.TcCoe Idealize.SL.Sem
open Cert.ReferenceIdeal Cert.ReferenceIdeal.Gen Cert.ReferenceIdeal.Read

/-- A row of 256 numbers divided by its root mean square. -/
def norm (w : Fin 256 → EReal) (e : Fin 256) : EReal :=
  w e * Ideal.rsqrt (Ideal.div (∑ i : Fin 256, w i * w i) (Ideal.ofBits FTy.f32 0x43800000#32) + Ideal.ofBits FTy.f32 0x358637BD#32)

variable (x0 : S16x256x5664.Idx → EReal) (x1 : S4x1024x5664.Idx → EReal) (x2 : S16x512.Idx → EReal) (x3 : S512.Idx → EReal)
  (x4 : S16x512.Idx → EReal) (x5 : S512.Idx → EReal) (x6 : S4x2x4x128x256.Idx → EReal)

theorem sumP_host (s : Fin 16) (h : Fin 4) (t : Fin 256) (e : Fin 256) : (val_main_v108 (F := Ideal) x0 x2 x3 x4 x5 (ix4 s h t e) : EReal)
    = val_main_v103 (F := Ideal) x0 x2 x3 x4 x5 (ix5 ⟨s.val, by omega⟩ h ⟨t.val / 64, by omega⟩ ⟨t.val % 64, by omega⟩ e)
      + val_main_v103 (F := Ideal) x0 x2 x3 x4 x5 (ix5 ⟨16 + s.val, by omega⟩ h ⟨(256 - (t.val + 1)) / 64, by omega⟩ ⟨(256 - (t.val + 1)) % 64, by omega⟩ e) := by
  unfold val_main_v108 val_main_v107 val_main_v106 val_main_v105 val_main_v104
  generalize val_main_v103 (F := Ideal) x0 x2 x3 x4 x5 = G
  pointwise []
  simp [Fin.val_rev]

theorem normP_host (s : Fin 16) (h : Fin 4) (t : Fin 256) (e : Fin 256) : (val_main_v118 (F := Ideal) x0 x2 x3 x4 x5 (ix4 s h t e) : EReal)
    = norm (fun i => val_main_v108 (F := Ideal) x0 x2 x3 x4 x5 (ix4 s h t i)) e := by
  unfold val_main_v118 val_main_v117 val_main_v116 val_main_v115 val_main_v113 val_main_v111 val_main_v110 val_main_v109 norm
  generalize val_main_v108 (F := Ideal) x0 x2 x3 x4 x5 = G
  pointwise [val_main_cst_4, val_main_cst_5, val_main_cst_6, val_main_v112, val_main_v114]

theorem rowP_host (j : Fin 8) (hj : j.val < 4) (h : Fin 4) (t : Fin 1024) (e : Fin 256) :
    (val_main_v498 (F := Ideal) x0 x1 x2 x3 x4 x5 x6 (ix2 ⟨j.val * 1024 + t.val, by omega⟩ ⟨h.val * 256 + e.val, by omega⟩) : EReal)
    = val_main_v118 (F := Ideal) x0 x2 x3 x4 x5 (ix4 ⟨4 * j.val + t.val / 256, by omega⟩ h ⟨t.val % 256, by omega⟩ e) := by
  unfold val_main_v498 val_main_v120 val_main_v119
  generalize val_main_v118 (F := Ideal) x0 x2 x3 x4 x5 = G
  generalize val_main_v491 (F := Ideal) x1 x2 x3 x4 x5 x6 = K
  pointwise []
  rw [dif_pos (show j.val * 1024 + t.val < 4096 by omega)]
  have e1 : (⟨(j.val * 1024 + t.val) / 256, by omega⟩ : Fin 16) = ⟨4 * j.val + t.val / 256, by omega⟩ := Fin.ext (by simp only []; omega)
  have e2 : (⟨(j.val * 1024 + t.val) % 256, by omega⟩ : Fin 256) = ⟨t.val % 256, by omega⟩ := Fin.ext (by simp only []; omega)
  exact congrArg₂ (fun a b => G (ix4 a h b e)) e1 e2

theorem halfS_host (r : Fin 8192) (hr : 4096 ≤ r.val) (l : Fin 1024) : (val_main_v498 (F := Ideal) x0 x1 x2 x3 x4 x5 x6 (ix2 r l) : EReal)
    = val_main_v491 (F := Ideal) x1 x2 x3 x4 x5 x6 (ix2 ⟨r.val - 4096, by omega⟩ l) := by
  unfold val_main_v498
  generalize val_main_v120 (F := Ideal) x0 x2 x3 x4 x5 = G
  generalize val_main_v491 (F := Ideal) x1 x2 x3 x4 x5 x6 = K
  pointwise []
  exact dif_neg (Nat.not_lt.mpr hr)

theorem rowS_host (j : Fin 4) (h : Fin 4) (t : Fin 1024) (e : Fin 256) :
    (val_main_v491 (F := Ideal) x1 x2 x3 x4 x5 x6 (ix2 ⟨j.val * 1024 + t.val, by omega⟩ ⟨h.val * 256 + e.val, by omega⟩) : EReal)
    = val_main_v489 (F := Ideal) x1 x2 x3 x4 x5 x6 (ix4 j h t e) := by
  unfold val_main_v491 val_main_v490
  generalize val_main_v489 (F := Ideal) x1 x2 x3 x4 x5 x6 = K
  pointwise []

theorem sumS_host (s : Fin 4) (h : Fin 4) (t : Fin 1024) (e : Fin 256) : (val_main_v479 (F := Ideal) x1 x2 x3 x4 x5 x6 (ix4 s h t e) : EReal)
    = val_main_v474 (F := Ideal) x1 x2 x3 x4 x5 x6 (ix5 ⟨s.val, by omega⟩ h ⟨t.val / 64, by omega⟩ ⟨t.val % 64, by omega⟩ e)
      + val_main_v474 (F := Ideal) x1 x2 x3 x4 x5 x6 (ix5 ⟨4 + s.val, by omega⟩ h ⟨(1024 - (t.val + 1)) / 64, by omega⟩ ⟨(1024 - (t.val + 1)) % 64, by omega⟩ e) := by
  unfold val_main_v479 val_main_v478 val_main_v477 val_main_v476 val_main_v475
  generalize val_main_v474 (F := Ideal) x1 x2 x3 x4 x5 x6 = G
  pointwise []
  simp [Fin.val_rev]

theorem normS_host (s : Fin 4) (h : Fin 4) (t : Fin 1024) (e : Fin 256) : (val_main_v489 (F := Ideal) x1 x2 x3 x4 x5 x6 (ix4 s h t e) : EReal)
    = norm (fun i => val_main_v479 (F := Ideal) x1 x2 x3 x4 x5 x6 (ix4 s h t i)) e := by
  unfold val_main_v489 val_main_v488 val_main_v487 val_main_v486 val_main_v484 val_main_v482 val_main_v481 val_main_v480 norm
  generalize val_main_v479 (F := Ideal) x1 x2 x3 x4 x5 x6 = G
  pointwise [val_main_cst_20, val_main_cst_21, val_main_cst_22, val_main_v483, val_main_v485]

theorem stateP_host (j : Fin 8) (hj : j.val < 4) (m : Fin 4) (d : Fin 2) (h : Fin 4) (y : Fin 128) (e : Fin 256) :
    (val_main_v500 (F := Ideal) x0 x2 x3 x4 x5 (ix6 j m d h y e) : EReal)
    = val_main_v96 (F := Ideal) x0 x2 x3 x4 x5 (ix4 ⟨16 * d.val + (4 * j.val + m.val), by omega⟩ h y e) := by
  unfold val_main_v500 val_main_v497 val_main_v496 val_main_v495 val_main_v494 val_main_v121 val_main_v122
  generalize val_main_v96 (F := Ideal) x0 x2 x3 x4 x5 = G
  generalize val_main_v499 (F := Ideal) = K
  pointwise []
  rw [dif_pos hj]
  by_cases hd : d.val < 1
  · rw [dif_pos hd]
    exact congrArg (fun a => G (ix4 a h y e)) (Fin.ext (by simp only []; omega))
  · rw [dif_neg hd]
    exact congrArg (fun a => G (ix4 a h y e)) (Fin.ext (by simp only []; omega))

/-- The first result at a token of the context: the outputs of its two scans, added and normalised. -/
theorem resultP (j : Fin 8) (hj : j.val < 4) (h : Fin 4) (t : Fin 1024) (e : Fin 256) :
    (val_main_v498 (F := Ideal) x0 x1 x2 x3 x4 x5 x6 (ix2 ⟨j.val * 1024 + t.val, by omega⟩ ⟨h.val * 256 + e.val, by omega⟩) : EReal)
    = norm (fun i => (scanP x0 x2 x3 x4 x5 ⟨4 * j.val + t.val / 256, by omega⟩ h).out (t.val % 256 / 64) ⟨t.val % 256 % 64, by omega⟩ i
        + (scanP x0 x2 x3 x4 x5 ⟨16 + (4 * j.val + t.val / 256), by omega⟩ h).out ((256 - (t.val % 256 + 1)) / 64)
          ⟨(256 - (t.val % 256 + 1)) % 64, by omega⟩ i) e := by
  rw [rowP_host x0 x1 x2 x3 x4 x5 x6 j hj, normP_host]
  refine congrArg (fun w => norm w e) (funext fun i => ?_)
  refine (sumP_host _ _ _ _ _ _ _ _ _).trans (congrArg₂ (· + ·) ?_ ?_)
  · exact outP x0 x2 x3 x4 x5 _ h ⟨t.val % 256 / 64, by omega⟩ ⟨t.val % 256 % 64, by omega⟩ i
  · exact outP x0 x2 x3 x4 x5 _ h ⟨(256 - (t.val % 256 + 1)) / 64, by omega⟩ ⟨(256 - (t.val % 256 + 1)) % 64, by omega⟩ i

/-- The first result at a token of a sample: the outputs of its two scans, added and normalised. -/
theorem resultS (j : Fin 4) (h : Fin 4) (t : Fin 1024) (e : Fin 256) (r : Fin 8192) (hr : r.val = 4096 + (j.val * 1024 + t.val)) :
    (val_main_v498 (F := Ideal) x0 x1 x2 x3 x4 x5 x6 (ix2 r ⟨h.val * 256 + e.val, by omega⟩) : EReal)
    = norm (fun i => (scanS x1 x2 x3 x4 x5 x6 ⟨j.val, by omega⟩ h).out (t.val / 64) ⟨t.val % 64, by omega⟩ i
        + (scanS x1 x2 x3 x4 x5 x6 ⟨4 + j.val, by omega⟩ h).out ((1024 - (t.val + 1)) / 64) ⟨(1024 - (t.val + 1)) % 64, by omega⟩ i) e := by
  rw [halfS_host x0 x1 x2 x3 x4 x5 x6 r (by omega)]
  have er : (⟨r.val - 4096, by omega⟩ : Fin 4096) = ⟨j.val * 1024 + t.val, by omega⟩ := Fin.ext (by simp only []; omega)
  refine (congrArg (fun a : Fin 4096 => val_main_v491 (F := Ideal) x1 x2 x3 x4 x5 x6 (ix2 a ⟨h.val * 256 + e.val, by omega⟩)) er).trans ?_
  refine (rowS_host x1 x2 x3 x4 x5 x6 j h t e).trans ?_
  rw [normS_host]
  refine congrArg (fun w => norm w e) (funext fun i => ?_)
  refine (sumS_host _ _ _ _ _ _ _ _ _ _).trans (congrArg₂ (· + ·) ?_ ?_)
  · exact outS x1 x2 x3 x4 x5 x6 _ h ⟨t.val / 64, by omega⟩ ⟨t.val % 64, by omega⟩ i
  · exact outS x1 x2 x3 x4 x5 x6 _ h ⟨(1024 - (t.val + 1)) / 64, by omega⟩ ⟨(1024 - (t.val + 1)) % 64, by omega⟩ i

/-- The second result at the context's blocks: the states after the four chunks of a sequence. -/
theorem statesP_result (j : Fin 8) (hj : j.val < 4) (m : Fin 4) (d : Fin 2) (h : Fin 4) (y : Fin 128) (e : Fin 256) :
    (val_main_v500 (F := Ideal) x0 x2 x3 x4 x5 (ix6 j m d h y e) : EReal)
    = (scanP x0 x2 x3 x4 x5 ⟨16 * d.val + (4 * j.val + m.val), by omega⟩ h).state 4 y e :=
  (stateP_host x0 x2 x3 x4 x5 j hj m d h y e).trans (statesP_eq x0 x2 x3 x4 x5 _ h y e 4)

end Cert.Gla
-- ==== Proof.GlaValue.lean ====
/-
  The value of gated linear attention: the kernel's results are the reference's.
-/
module

public import proofs.«01_k».proof.Proof.GlaAgree
public import proofs.«01_k».proof.Proof.GlaRefOut

@[expose] public section

set_option maxRecDepth 16384

noncomputable section

namespace Cert.Gla

open Idealize.ShloMosaic Idealize.ShloMosaic.TcCoe Idealize.SL.Sem
open Cert.KernelIdeal Cert.KernelIdeal.Gen Cert.KernelIdeal.Value

/-- The word that says whether a block holds samples. -/
theorem sel_word : ∀ j : Fin 8, Scalar.cmpi CmpIPredicate.sge (BitVec.ofNat 32 j.val) 4#32 = if j.val < 4 then 0#1 else 1#1 := by
  decide +kernel

/-- The kernel's normalisation of a row. -/
theorem norm_kernel (w : Vec Ideal S1024x256 .f32) (a : Fin 1024) (e : Fin 256) :
    (k0_pay1 (F := Ideal) w (ix2 a e) : EReal) = norm (fun i => w (ix2 a i)) e := by
  unfold k0_pay1 norm
  pointwise []

variable (m : (ℓ : Loc nD τ sig) → Buf (Elt Ideal) ℓ) (c : Dev nD)
variable (t : Fin cfg0.N) (J : Fin 8) (H : Fin 4) (hJ : (grid0.coords t 0).val = J.val) (hH : (grid0.coords t 1).val = H.val)

include hJ hH

/-- A token of the context in one direction. -/
theorem token_prompt (hJ4 : J.val < 4) (d : Bool) (i : Fin 4) (b : Fin 32) (hb : b.val = (if d then 16 else 0) + (4 * J.val + i.val))
    (r : ℕ) (hr : r < 4) (p : Fin 64) (a : Fin 1024) (ha : (row d (4 * (groupOf d i).val + r) p).val = a.val) (e : Fin 256) :
    (outBlock (blocksAt m c t) 0#1 d (ix2 a e) : EReal)
      = (scanP (m (c.tc.loc main_arg0)) (m (c.tc.loc main_arg2)) (m (c.tc.loc main_arg3)) (m (c.tc.loc main_arg4)) (m (c.tc.loc main_arg5))
          b H).out r p e := by
  have eb : b = batchP d J i := Fin.ext (by rw [hb]; simp only [batchP]; omega)
  have ea : a = row d (4 * (groupOf d i).val + r) p := Fin.ext ha.symm
  rw [eb, ea]
  have hg : ∀ i, (blocksAt m c t).g d i ≠ (⊤ : EReal) := gate_fin m c t J H hJ hH d
  exact (outBlock_prompt (blocksAt m c t) d hg (groupOf d i) ⟨r, hr⟩ p e).trans
    ((agree_prompt m c t J H hJ hH hJ4 d i).out r hr p e)

/-- A token of a sample in one direction. -/
theorem token_sample (hJ4 : ¬ J.val < 4) (d : Bool) (b : Fin 8) (hb : b.val = (if d then 4 else 0) + (J.val - 4))
    (r : ℕ) (hr : r < 16) (p : Fin 64) (a : Fin 1024) (ha : (row d r p).val = a.val) (e : Fin 256) :
    (outBlock (blocksAt m c t) 1#1 d (ix2 a e) : EReal)
      = (scanS (m (c.tc.loc main_arg1)) (m (c.tc.loc main_arg2)) (m (c.tc.loc main_arg3)) (m (c.tc.loc main_arg4)) (m (c.tc.loc main_arg5))
          (m (c.tc.loc main_arg6)) b H).out r p e := by
  have eb : b = batchS d J := Fin.ext (by rw [hb]; simp only [batchS]; omega)
  have ea : a = row d r p := Fin.ext ha.symm
  rw [eb, ea]
  have hg : ∀ i, (blocksAt m c t).g d i ≠ (⊤ : EReal) := gate_fin m c t J H hJ hH d
  exact (outBlock_sample (blocksAt m c t) d hg (fun x e => (blocksAt m c t).s0 d (ix5 0 0 0 x e)) (fun _ _ => rfl) ⟨r, hr⟩ p e).trans
    ((agree_sample m c t J H hJ hH hJ4 d).out r hr p e)

/-- The block of the first result at a grid point is the reference's. -/
theorem block_out (a : Fin 1024) (e : Fin 256) :
    (k0_pay1 (addf (outBlock (blocksAt m c t) (Scalar.cmpi CmpIPredicate.sge (BitVec.ofNat 32 ↑(grid0.coords t 0)) 4#32) false)
        (outBlock (blocksAt m c t) (Scalar.cmpi CmpIPredicate.sge (BitVec.ofNat 32 ↑(grid0.coords t 0)) 4#32) true)) (ix2 a e) : EReal)
      = Cert.ReferenceIdeal.Read.val_main_v498 (F := Ideal) (m (c.tc.loc main_arg0)) (m (c.tc.loc main_arg1)) (m (c.tc.loc main_arg2))
          (m (c.tc.loc main_arg3)) (m (c.tc.loc main_arg4)) (m (c.tc.loc main_arg5)) (m (c.tc.loc main_arg6))
          (ix2 ⟨J.val * 1024 + a.val, by omega⟩ ⟨H.val * 256 + e.val, by omega⟩) := by
  have hs : Scalar.cmpi CmpIPredicate.sge (BitVec.ofNat 32 ↑(grid0.coords t 0)) 4#32 = if J.val < 4 then 0#1 else 1#1 := by
    rw [hJ]
    exact sel_word J
  rw [hs]
  refine (norm_kernel _ a e).trans ?_
  by_cases h : J.val < 4
  · rw [if_pos h]
    refine Eq.trans ?_ (resultP _ _ _ _ _ _ _ J h H a e).symm
    refine congrArg (fun w => norm w e) (funext fun i => congrArg₂ (· + ·) ?_ ?_)
    · refine token_prompt m c t J H hJ hH h false ⟨a.val / 256, by omega⟩ _ (by simp) _ (by omega) _ a ?_ i
      rw [row_false _ (by simp only [groupOf]; simp; omega)]
      simp only [groupOf]
      simp
      omega
    · refine token_prompt m c t J H hJ hH h true ⟨a.val / 256, by omega⟩ _ (by simp) _ (by omega) _ a ?_ i
      rw [row_true _ (by simp only [groupOf]; simp [Fin.val_rev]; omega)]
      simp only [groupOf]
      simp [Fin.val_rev]
      omega
  · rw [if_neg h]
    refine Eq.trans ?_ (resultS _ _ _ _ _ _ _ ⟨J.val - 4, by omega⟩ H a e ⟨J.val * 1024 + a.val, by omega⟩ (by simp only []; omega)).symm
    refine congrArg (fun w => norm w e) (funext fun i => congrArg₂ (· + ·) ?_ ?_)
    · refine token_sample m c t J H hJ hH h false _ (by simp) _ (by omega) _ a ?_ i
      rw [row_false _ (by omega)]
      simp only []
      omega
    · refine token_sample m c t J H hJ hH h true _ (by simp) _ (by omega) _ a ?_ i
      rw [row_true _ (by omega)]
      simp only []
      omega

/-- A state of the second result at a grid point of the context is the reference's. -/
theorem block_state (hJ4 : J.val < 4) (i : Fin 4) (d : Fin 2) (x : Fin 128) (e : Fin 256) :
    (statesBlock (blocksAt m c t) (Scalar.cmpi CmpIPredicate.sge (BitVec.ofNat 32 ↑(grid0.coords t 0)) 4#32) (ix6 0 i d 0 x e) : EReal)
      = Cert.ReferenceIdeal.Read.val_main_v500 (F := Ideal) (m (c.tc.loc main_arg0)) (m (c.tc.loc main_arg2))
          (m (c.tc.loc main_arg3)) (m (c.tc.loc main_arg4)) (m (c.tc.loc main_arg5)) (ix6 J i d H x e) := by
  have hs : Scalar.cmpi CmpIPredicate.sge (BitVec.ofNat 32 ↑(grid0.coords t 0)) 4#32 = 0#1 := by
    rw [hJ, sel_word J, if_pos hJ4]
  rw [hs]
  refine Eq.trans ?_ (statesP_result _ _ _ _ _ J hJ4 i d H x e).symm
  have hg : ∀ D : Bool, ∀ i, (blocksAt m c t).g D i ≠ (⊤ : EReal) := fun D => gate_fin m c t J H hJ hH D
  have key : ∀ (D : Bool) (n : ℕ) (b : Fin 32), n = 4 * (groupOf D i).val + 3 → b.val = (if D then 16 else 0) + (4 * J.val + i.val) →
      (stateOut (blocksAt m c t) 0#1 D n (ix6 0 0 0 0 x e) : EReal)
        = (scanP (m (c.tc.loc main_arg0)) (m (c.tc.loc main_arg2)) (m (c.tc.loc main_arg3)) (m (c.tc.loc main_arg4)) (m (c.tc.loc main_arg5))
            b H).state 4 x e := by
    intro D n b hn hb
    have eb : b = batchP D J i := Fin.ext (by rw [hb]; simp only [batchP]; omega)
    rw [hn, eb]
    exact (stateOut_prompt (blocksAt m c t) D (hg D) (groupOf D i).val x e).trans
      (congrFun (congrFun ((agree_prompt m c t J H hJ hH hJ4 D i).state 4 (le_refl 4)) x) e)
  match d with
  | ⟨0, _⟩ => exact key false _ _ (by simp [groupOf]) (by simp)
  | ⟨1, _⟩ => exact key true _ _ (by simp [groupOf, Fin.val_rev]; omega) (by simp)

omit hJ hH t J H in
/-- The kernel's first result. -/
theorem final_out : (dats m 0 c).arrAt 11 cfg0.N = fun i : S8192x1024.Idx =>
    Cert.ReferenceIdeal.Read.val_main_v498 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) i := by
  refine (dats m 0 c).arrAt_eq_of_covers 11 _ (by decide +kernel) fun t hf y => ?_
  obtain ⟨-, -, -, -, -, -, e11, -⟩ := index_facts t
  refine (congrFun (flushed11_A m c t) y).trans ?_
  rw [out_block]
  have er : (((View.whole main_v60_0).slice (win0_11.rect t)).emb y 0 : Fin 8192).val
      = (grid0.coords t 0).val * 1024 + (((cfg0.win 11).xinj (grid0.coords t) y 0 : Fin 1024)).val := by
    blk_simp [e11]
  have el : (((View.whole main_v60_0).slice (win0_11.rect t)).emb y 1 : Fin 1024).val
      = (grid0.coords t 1).val * 256 + (((cfg0.win 11).xinj (grid0.coords t) y 1 : Fin 256)).val := by
    blk_simp [e11]
  show k0_pay1 (F := Ideal) _ ((cfg0.win 11).xinj (grid0.coords t) y) = Cert.ReferenceIdeal.Read.val_main_v498 (F := Ideal) _ _ _ _ _ _ _ (((View.whole main_v60_0).slice (win0_11.rect t)).emb y)
  generalize ((cfg0.win 11).xinj (grid0.coords t) y : S1024x256.Idx) = z at *
  generalize (((View.whole main_v60_0).slice (win0_11.rect t)).emb y : S8192x1024.Idx) = w at *
  rw [ValueIdx.eq_ix2 z, ValueIdx.eq_ix2 w]
  refine (block_out m c t (grid0.coords t 0) (grid0.coords t 1) rfl rfl (z 0) (z 1)).trans ?_
  exact congrArg₂ (fun a b => Cert.ReferenceIdeal.Read.val_main_v498 (F := Ideal) _ _ _ _ _ _ _ (ix2 a b)) (Fin.ext er.symm) (Fin.ext el.symm)

omit hJ hH t J H in
/-- The kernel's second result. -/
theorem final_state : (dats m 0 c).arrAt 12 cfg0.N = fun i : S8x4x2x4x128x256.Idx =>
    if (i 0).val < 4 then Cert.ReferenceIdeal.Read.val_main_v500 (F := Ideal) (m (c.tc.loc main_arg0)) (m (c.tc.loc main_arg2))
      (m (c.tc.loc main_arg3)) (m (c.tc.loc main_arg4)) (m (c.tc.loc main_arg5)) i
    else (dats m 0 c).arrAt 12 cfg0.N i := by
  refine (dats m 0 c).arrAt_eq_of_covers 12 _ (by decide +kernel) fun t hf y => ?_
  obtain ⟨-, -, -, -, -, -, -, e12⟩ := index_facts t
  refine Eq.trans (b := (dats m 0 c).flushed 12 t y) rfl ?_
  show _ = if (((cfg0.win 12).blk t).view.emb y 0 : Fin 8).val < 4 then _ else _
  split
  case isFalse => exact (congrFun (blocks12 m c t hf) y).symm
  refine (congrFun (flushed12_A m c t) y).trans ?_
  rw [states_block]
  have e0 : (((View.whole main_v60_1).slice (win0_12.rect t)).emb y 0 : Fin 8).val = (grid0.coords t 0).val := by
    blk_simp [e12]
  have e1 : (((View.whole main_v60_1).slice (win0_12.rect t)).emb y 1 : Fin 4).val
      = (((cfg0.win 12).xinj (grid0.coords t) y 1 : Fin 4)).val := by
    blk_simp [e12]
  have e2 : (((View.whole main_v60_1).slice (win0_12.rect t)).emb y 2 : Fin 2).val
      = (((cfg0.win 12).xinj (grid0.coords t) y 2 : Fin 2)).val := by
    blk_simp [e12]
  have e3 : (((View.whole main_v60_1).slice (win0_12.rect t)).emb y 3 : Fin 4).val = (grid0.coords t 1).val := by
    blk_simp [e12]
  have e4 : (((View.whole main_v60_1).slice (win0_12.rect t)).emb y 4 : Fin 128).val
      = (((cfg0.win 12).xinj (grid0.coords t) y 4 : Fin 128)).val := by
    blk_simp [e12]
  have e5 : (((View.whole main_v60_1).slice (win0_12.rect t)).emb y 5 : Fin 256).val
      = (((cfg0.win 12).xinj (grid0.coords t) y 5 : Fin 256)).val := by
    blk_simp [e12]
  have h4 : (((View.whole main_v60_1).slice (win0_12.rect t)).emb y 0 : Fin 8).val < 4 := by assumption
  show statesBlock (F := Ideal) _ _ ((cfg0.win 12).xinj (grid0.coords t) y)
    = Cert.ReferenceIdeal.Read.val_main_v500 (F := Ideal) _ _ _ _ _ (((View.whole main_v60_1).slice (win0_12.rect t)).emb y)
  generalize ((cfg0.win 12).xinj (grid0.coords t) y : S1x4x2x1x128x256.Idx) = z at *
  generalize (((View.whole main_v60_1).slice (win0_12.rect t)).emb y : S8x4x2x4x128x256.Idx) = w at *
  have ew : w = ix6 (grid0.coords t 0) (z 1) (z 2) (grid0.coords t 1) (z 4) (z 5) := by
    rw [ValueIdx.eq_ix6 w]
    funext a
    fin_cases a
    · exact Fin.ext e0
    · exact Fin.ext e1
    · exact Fin.ext e2
    · exact Fin.ext e3
    · exact Fin.ext e4
    · exact Fin.ext e5
  rw [ew]
  exact block_state m c t (grid0.coords t 0) (grid0.coords t 1) rfl rfl (by rw [← e0]; exact h4) (z 1) (z 2) (z 4) (z 5)

end Cert.Gla
-- ==== Proof.lean ====
/-
  The claims of one layer's gated linear attention and of its input projection: the frames of the programs, the two
  idealizations, and the equality of kernel and reference at the extended reals, for the attention and for the projection.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InProjRef
public import proofs.«01_k».proof.Proof.GlaValue
public import Idealize.ShloMosaic.Adequacy
public import Idealize.ShloMosaic.Init

@[expose] public section

noncomputable section

namespace Cert.Proof

open Idealize.ShloMosaic Idealize.SL.Sem

/-- The input projection's kernel and its reference end with equal results. -/
theorem projection_agrees : Cert.algebraic_Kernel2Ideal_Reference2Ideal := by
  intro m g m' g' _ hm
  refine ⟨fun c => (Cert.Kernel2Ideal.Gen.dats m 0 c).arrAt 4 Cert.Kernel2Ideal.cfg0.N, Cert.Kernel2Ideal.Value.run_blocks m g,
    (θ_run _ _ _).mono (fun r h c => ⟨(h c).1.trans ?_, (h c).2⟩) (Cert.Reference2Ideal.Value.run m' g')⟩
  obtain ⟨e0, e1, e2, e3, e4⟩ := hm c
  show _ = (Cert.Kernel2Ideal.Gen.dats m 0 c).arrAt 4 Cert.Kernel2Ideal.cfg0.N
  rw [Cert.Reference2Ideal.Read.val_main_v64_eq, Cert.InProj.final, e0, e1, e2, e3, e4]
  funext i
  rw [ValueIdx.eq_ix2 i]
  exact Cert.InProj.reference_result _ _ _ _ _ (i 0) (i 1)

/-- What the mask of the results states. -/
theorem mask_facts : Cert.On_of_prompt.Facts where
  bcast_S_S8192x1024 := by decide
  bcast_S_S8x4x2x4x128x256 := by decide

/-- Where the mask of the second result holds, the block is one of the context's. -/
theorem mask_word : ∀ j : Fin 8, IntOp.cmpi CmpIPredicate.slt (BitVec.ofNat 32 j.val) 4#32 = 1#1 → j.val < 4 := by
  decide +kernel

/-- The attention's kernel and its reference end with equal results: the outputs of all tokens, and the context's states. -/
theorem attention_agrees : Cert.algebraic_KernelIdeal_ReferenceIdeal_on_of_prompt (hOn_of_prompt := mask_facts) := by
  intro m g m' g' _ hm
  refine ⟨fun c => (Cert.KernelIdeal.Gen.dats m 0 c).arrAt 11 Cert.KernelIdeal.cfg0.N,
    fun c => (Cert.KernelIdeal.Gen.dats m 0 c).arrAt 12 Cert.KernelIdeal.cfg0.N,
    (θ_run _ _ _).mono (fun r h c => ⟨fun i _ => congrFun (h c).1 i, fun i _ => congrFun (h c).2.1 i, (h c).2.2⟩)
      (Cert.KernelIdeal.Value.run_blocks m g),
    (θ_run _ _ _).mono (fun r h c => ⟨fun i _ => (congrFun (h c).1 i).trans ?_, fun i hi => (congrFun (h c).2.1 i).trans ?_, (h c).2.2⟩)
      (Cert.ReferenceIdeal.Value.run m' g')⟩
  · obtain ⟨e0, e1, e2, e3, e4, e5, e6⟩ := hm c
    show _ = (Cert.KernelIdeal.Gen.dats m 0 c).arrAt 11 Cert.KernelIdeal.cfg0.N i
    have a0 : StableHlo.launchContents m' c (Proc.tc.devRef Cert.ReferenceIdeal.main_arg0) = m (c.tc.loc Cert.KernelIdeal.main_arg0) := e0
    have a1 : StableHlo.launchContents m' c (Proc.tc.devRef Cert.ReferenceIdeal.main_arg1) = m (c.tc.loc Cert.KernelIdeal.main_arg1) := e1
    have a2 : StableHlo.launchContents m' c (Proc.tc.devRef Cert.ReferenceIdeal.main_arg2) = m (c.tc.loc Cert.KernelIdeal.main_arg2) := e2
    have a3 : StableHlo.launchContents m' c (Proc.tc.devRef Cert.ReferenceIdeal.main_arg3) = m (c.tc.loc Cert.KernelIdeal.main_arg3) := e3
    have a4 : StableHlo.launchContents m' c (Proc.tc.devRef Cert.ReferenceIdeal.main_arg4) = m (c.tc.loc Cert.KernelIdeal.main_arg4) := e4
    have a5 : StableHlo.launchContents m' c (Proc.tc.devRef Cert.ReferenceIdeal.main_arg5) = m (c.tc.loc Cert.KernelIdeal.main_arg5) := e5
    have a6 : StableHlo.launchContents m' c (Proc.tc.devRef Cert.ReferenceIdeal.main_arg6) = m (c.tc.loc Cert.KernelIdeal.main_arg6) := e6
    rw [Cert.ReferenceIdeal.Read.val_main_v498_eq, a0, a1, a2, a3, a4, a5, a6]
    exact (congrFun (Cert.Gla.final_out m c) i).symm
  · obtain ⟨e0, e1, e2, e3, e4, e5, e6⟩ := hm c
    have h4 : (i 0).val < 4 := mask_word (i 0) hi
    show _ = (Cert.KernelIdeal.Gen.dats m 0 c).arrAt 12 Cert.KernelIdeal.cfg0.N i
    have a0 : StableHlo.launchContents m' c (Proc.tc.devRef Cert.ReferenceIdeal.main_arg0) = m (c.tc.loc Cert.KernelIdeal.main_arg0) := e0
    have a2 : StableHlo.launchContents m' c (Proc.tc.devRef Cert.ReferenceIdeal.main_arg2) = m (c.tc.loc Cert.KernelIdeal.main_arg2) := e2
    have a3 : StableHlo.launchContents m' c (Proc.tc.devRef Cert.ReferenceIdeal.main_arg3) = m (c.tc.loc Cert.KernelIdeal.main_arg3) := e3
    have a4 : StableHlo.launchContents m' c (Proc.tc.devRef Cert.ReferenceIdeal.main_arg4) = m (c.tc.loc Cert.KernelIdeal.main_arg4) := e4
    have a5 : StableHlo.launchContents m' c (Proc.tc.devRef Cert.ReferenceIdeal.main_arg5) = m (c.tc.loc Cert.KernelIdeal.main_arg5) := e5
    rw [Cert.ReferenceIdeal.Read.val_main_v500_eq, a0, a2, a3, a4, a5]
    exact ((congrFun (Cert.Gla.final_state m c) i).trans (if_pos h4)).symm

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, mask_facts,
    fun m g _ => Cert.Kernel.Gen.frame m g, fun m g _ => Cert.KernelIdeal.Gen.frame m g,
    fun m g _ => (θ_run _ _ _).mono (fun r h => ⟨fun c => (h c).2.2, sem_eq_zero_of_no_sems rfl r.2⟩) (Cert.ReferenceIdeal.Value.run m g),
    fun m g _ => Cert.Kernel2.Gen.frame m g, fun m g _ => Cert.Kernel2Ideal.Gen.frame m g,
    fun m g _ => (θ_run _ _ _).mono (fun r h => ⟨fun c => (h c).2, sem_eq_zero_of_no_sems rfl r.2⟩) (Cert.Reference2Ideal.Value.run m g),
    trivial, attention_agrees, trivial, projection_agrees⟩

end Cert.Proof

end
